-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x2048x128 : Shape := ⟨3, ![8, 2048, 128]⟩
abbrev S1x129 : Shape := ⟨2, ![1, 129]⟩
abbrev S1 : Shape := ⟨1, ![1]⟩
abbrev S_ : Shape := ⟨0, ![]⟩

class Facts : Prop where
  bcast_S_S8x2048x128 : S_.BroadcastsInDim S8x2048x128 (![] : Fin 0 → Fin S8x2048x128.rank)
  reducesTo_S8x2048x128_S_d0_1_2 : S8x2048x128.ReducesTo [0, 1, 2] S_
  h_S_ : 0 < S_.numel
  bcast_S_S1x129 : S_.BroadcastsInDim S1x129 (![] : Fin 0 → Fin S1x129.rank)
  reducesTo_S1x129_S_d0_1 : S1x129.ReducesTo [0, 1] S_
  bcast_S_S1 : S_.BroadcastsInDim S1 (![] : Fin 0 → Fin S1.rank)
  reducesTo_S1_S_d0 : S1.ReducesTo [0] S_

variable [Facts]

def fn {F : FTy → Type} [FloatOps F] (main_arg0 : FVec F S8x2048x128 .f32) (main_arg1 : FVec F S1x129 .f32) (main_arg2 : FVec F S1 .f32) : IVec S_ 1 :=
  let main_v0 : FVec F S8x2048x128 .f32 := Host.absf main_arg0
  let main_cst : FVec F S_ .f32 := constant S_ .f32 0x7F800000#32
  let main_v1 : FVec F S8x2048x128 .f32 := broadcastInDim S8x2048x128 ![] bcast_S_S8x2048x128 main_cst
  let main_v2 : IVec S8x2048x128 1 := cmpf .olt main_v0 main_v1
  let main_c : IVec S_ 1 := constantI S_ 1 1#1
  let main_v3 : IVec S_ 1 := (fun x v => Host.reduce IntOp.andi x v reducesTo_S8x2048x128_S_d0_1_2 h_S_) main_v2 main_c
  let main_v4 : FVec F S1x129 .f32 := Host.absf main_arg1
  let main_cst_0 : FVec F S_ .f32 := constant S_ .f32 0x7F800000#32
  let main_v5 : FVec F S1x129 .f32 := broadcastInDim S1x129 ![] bcast_S_S1x129 main_cst_0
  let main_v6 : IVec S1x129 1 := cmpf .olt main_v4 main_v5
  let main_c_1 : IVec S_ 1 := constantI S_ 1 1#1
  let main_v7 : IVec S_ 1 := (fun x v => Host.reduce IntOp.andi x v reducesTo_S1x129_S_d0_1 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  main_v13
-- ==== Kernel.lean ====
abbrev S8x2048x128 : Shape := ⟨3, ![8, 2048, 128]⟩
abbrev S1x129 : Shape := ⟨2, ![1, 129]⟩
abbrev S1 : Shape := ⟨1, ![1]⟩
abbrev S1x128 : Shape := ⟨2, ![1, 128]⟩
abbrev S128x1 : Shape := ⟨2, ![128, 1]⟩
abbrev S4x2048x128 : Shape := ⟨3, ![4, 2048, 128]⟩
abbrev S8x256x128 : Shape := ⟨3, ![8, 256, 128]⟩
abbrev S_ : Shape := ⟨0, ![]⟩
abbrev S8192x128 : Shape := ⟨2, ![8192, 128]⟩
abbrev S8192x1 : Shape := ⟨2, ![8192, 1]⟩
abbrev S4x2048x1 : Shape := ⟨3, ![4, 2048, 1]⟩
abbrev S4x128 : Shape := ⟨2, ![4, 128]⟩
abbrev S4x1 : Shape := ⟨2, ![4, 1]⟩
abbrev S128 : Shape := ⟨1, ![128]⟩
abbrev S256x128 : Shape := ⟨2, ![256, 128]⟩
abbrev S1x256x128 : Shape := ⟨3, ![1, 256, 128]⟩

abbrev nBuf : Space → Nat
  | .hbm => 6
  | .vmem => 4
  | .smem => 0
  | _ => 0

abbrev bufTy : (tb : Table) → Fin (tcTables nBuf tb) → BufTy
  | .hbm, ⟨0, _⟩ => ⟨S8x2048x128, .f32⟩
  | .hbm, ⟨1, _⟩ => ⟨S1x129, .f32⟩
  | .hbm, ⟨2, _⟩ => ⟨S1, .f32⟩
  | .hbm, ⟨3, _⟩ => ⟨S1x128, .f32⟩
  | .hbm, ⟨4, _⟩ => ⟨S128x1, .f32⟩
  | .hbm, ⟨5, _⟩ => ⟨S8x2048x128, .f32⟩
  | .local _ .vmem, ⟨0, _⟩ => ⟨S4x2048x128, .f32⟩
  | .local _ .vmem, ⟨1, _⟩ => ⟨S4x2048x128, .f32⟩
  | .local _ .vmem, ⟨2, _⟩ => ⟨S128x1, .f32⟩
  | .local _ .vmem, ⟨3, _⟩ => ⟨S8x256x128, .f32⟩
  | _, _ => ⟨S8x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== ReferenceIdeal.lean ====
abbrev S8x2048x128 : Shape := ⟨3, ![8, 2048, 128]⟩
abbrev S1x129 : Shape := ⟨2, ![1, 129]⟩
abbrev S1 : Shape := ⟨1, ![1]⟩
abbrev S1x128 : Shape := ⟨2, ![1, 128]⟩
abbrev S128 : Shape := ⟨1, ![128]⟩
abbrev S1x1 : Shape := ⟨2, ![1, 1]⟩
abbrev S_ : Shape := ⟨0, ![]⟩
abbrev S8x2048 : Shape := ⟨2, ![8, 2048]⟩
abbrev S2048 : Shape := ⟨1, ![2048]⟩
abbrev S8x1x2048 : Shape := ⟨3, ![8, 1, 2048]⟩
abbrev S1x2048x1 : Shape := ⟨3, ![1, 2048, 1]⟩
abbrev S8x2048x2048 : Shape := ⟨3, ![8, 2048, 2048]⟩
abbrev S8x2048x1 : Shape := ⟨3, ![8, 2048, 1]⟩

abbrev nBuf : Space → Nat
  | .hbm => 34
  | .vmem => 0
  | .smem => 0
  | _ => 0

abbrev bufTy : (tb : Table) → Fin (tcTables nBuf tb) → BufTy
  | .hbm, ⟨0, _⟩ => ⟨S8x2048x128, .f32⟩
  | .hbm, ⟨1, _⟩ => ⟨S1x129, .f32⟩
  | .hbm, ⟨2, _⟩ => ⟨S1, .f32⟩
  | .hbm, ⟨3, _⟩ => ⟨S1x128, .f32⟩
  | .hbm, ⟨4, _⟩ => ⟨S128, .f32⟩
  | .hbm, ⟨5, _⟩ => ⟨S1x1, .f32⟩
  | .hbm, ⟨6, _⟩ => ⟨S_, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S2048, .f32⟩
  | .hbm, ⟨12, _⟩ => ⟨S8x1x2048, .f32⟩
  | .hbm, ⟨13, _⟩ => ⟨S1x2048x1, .f32⟩
  | .hbm, ⟨14, _⟩ => ⟨S1x2048x1, .f32⟩
  | .hbm, ⟨15, _⟩ => ⟨S1x2048x1, .f32⟩
  | .hbm, ⟨16, _⟩ => ⟨S8x2048x2048, .f32⟩
  | .hbm, ⟨17, _⟩ => ⟨S8x2048x2048, .f32⟩
  | .hbm, ⟨18, _⟩ => ⟨S8x2048x2048, .f32⟩
  | .hbm, ⟨19, _⟩ => ⟨S_, .f32⟩
  | .hbm, ⟨20, _⟩ => ⟨S8x2048, .f32⟩
  | .hbm, ⟨21, _⟩ => ⟨S_, .f32⟩
  | .hbm, ⟨22, _⟩ => ⟨S8x2048, .f32⟩
  | .hbm, ⟨23, _⟩ => ⟨S8x2048, .f32⟩
  | .hbm, ⟨24, _⟩ => ⟨S8x2048x1, .f32⟩
  | .hbm, ⟨25, _⟩ => ⟨S8x2048x2048, .f32⟩
  | .hbm, ⟨26, _⟩ => ⟨S8x2048x2048, .f32⟩
  | .hbm, ⟨27, _⟩ => ⟨S8x2048x2048, .f32⟩
  | .hbm, ⟨28, _⟩ => ⟨S_, .f32⟩
  | .hbm, ⟨29, _⟩ => ⟨S8x2048, .f32⟩
  | .hbm, ⟨30, _⟩ => ⟨S8x2048x1, .f32⟩
  | .hbm, ⟨31, _⟩ => ⟨S8x2048x2048, .f32⟩
  | .hbm, ⟨32, _⟩ => ⟨S8x2048x2048, .f32⟩
  | .hbm, ⟨33, _⟩ => ⟨S8x2048x128, .f32⟩
  | _, _ => ⟨S8x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_1 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩

abbrev nD : Nat := 1
abbrev τ : Topo := Topo.v7x

variable {F : FTy → Type} [FloatOps F]
-- ==== Proof.Program.lean ====
/-
  The kernel body, point by point. The body is called at two grid points; at each it loads its block of `H` and the
  column of weights, computes four pooled rows, stores each as a 256-row tile of the scratch buffer, and starts eight
  copies of every tile into the result. The second point also waits for all 64 copies. This module names the windows
  those operations use, numbers the copies in the order they are started, and restates the body at each point as a
  short program over the numbered copies.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.Regions

@[expose] public section

noncomputable section

namespace Cert.Attn

open Cert.Kernel Cert.Kernel.Gen
open Idealize.ShloMosaic Idealize.ShloMosaic.TcCoe Idealize.SL.Sem

variable {F : FTy → Type} [FloatOps F]

/-- The programs of the body. -/
abbrev BodyProg (F : FTy → Type) [FloatOps F] : Type 1 := Prog (TpuEff nD τ sig (Elt F) Λ₀ .tc) PUnit

/-- Tile `b` lies in the scratch buffer, for every `b` below 8. -/
theorem tile_inb (b : Fin 8) : ∀ a, (![b.val, 0, 0] : Fin 3 → Nat) a + S1x256x128.size a ≤ S8x256x128.size a := by
  revert b; decide

/-- Copy `j` fills rows `256 * (j % 8) …` of batch element `j / 8`; those rows lie in the result. -/
theorem win_inb (j : Fin 64) :
    ∀ a, (![j.val / 8, 256 * (j.val % 8), 0] : Fin 3 → Nat) a + S1x256x128.size a ≤ S8x2048x128.size a := by
  revert j; decide

/-- The tile copy `j` reads. -/
abbrev tileOf (j : Fin 64) : Fin 8 := ⟨j.val / 8, by omega⟩

/-- The rectangle of tile `b` in the scratch buffer. -/
abbrev tileRect (b : Fin 8) : Rect S8x256x128 := Rect.unit (s := S8x256x128) ![b.val, 0, 0] S1x256x128.size (tile_inb b)

/-- The rectangle of the result that copy `j` fills. -/
abbrev winRect (j : Fin 64) : Rect S8x2048x128 :=
  Rect.unit (s := S8x2048x128) ![j.val / 8, 256 * (j.val % 8), 0] S1x256x128.size (win_inb j)

/-- The scratch buffer and the result, whole. -/
abbrev scr : Memref sig .tc .vmem S8x256x128 .f32 := Memref.whole cc0_scratch0
abbrev res : Memref sig .tc .hbm S8x2048x128 .f32 := Memref.whole main_v2

/-- Tile `b` as a 256 × 128 array. -/
abbrev tileWin (b : Fin 8) : Memref sig .tc .vmem S256x128 .f32 :=
  (scr.slice (tileRect b) (fun _ => rfl)).squeeze S256x128 squeezes_S1x256x128_S256x128

/-- The rows copy `j` fills, as a 256 × 128 array. -/
abbrev resWin (j : Fin 64) : Memref sig .tc .hbm S256x128 .f32 :=
  (res.slice (winRect j) (fun _ => rfl)).squeeze S256x128 squeezes_S1x256x128_S256x128

/-- Start copy `j`. -/
def issueAt (j : Fin 64) : BodyProg F :=
  Prog.lift (.enqueueDma (tileWin (tileOf j)) (.here (resWin j)) (.dma cc0_scratch1.sem)
    ((View.wordExact_bits rfl).reshape _ _) ((View.wordExact_bits rfl).reshape _ _) ⟨Or.inl rfl, trivial⟩)

/-- Wait for as much as copy `j` moves. -/
def waitAt (j : Fin 64) : BodyProg F :=
  Prog.lift (.waitDma2 cc0_scratch1.sem (tileWin (tileOf j)) (resWin j)
    ((View.wordExact_bits rfl).reshape _ _) ((View.wordExact_bits rfl).reshape _ _))

/-- Copies `j, j + 1, …, j + n - 1`, started in turn. -/
def issues : (n j : ℕ) → j + n ≤ 64 → BodyProg F
  | 0, _, _ => pure ⟨⟩
  | n + 1, j, h => issueAt ⟨j, by omega⟩ >>= fun _ => issues n (j + 1) (by omega)

/-- The waits of copies `j, j + 1, …, j + n - 1`, in turn. -/
def waits : (n j : ℕ) → j + n ≤ 64 → BodyProg F
  | 0, _, _ => pure ⟨⟩
  | n + 1, j, h => waitAt ⟨j, by omega⟩ >>= fun _ => waits n (j + 1) (by omega)

/-- Store `p` as tile `b` (the tile is read first; nothing uses what is read). -/
def storeTile (b : Fin 8) (p : FVec F S1x256x128 .f32) : BodyProg F :=
  Prog.lift (.load scr (tileRect b).toLoadRect (View.loadsAt_vmem h_S1x256x128)) >>= fun _ =>
    Prog.lift (.store scr (tileRect b) p Finset.univ (View.stores_vmem_bits_univ h_S1x256x128 rfl) (.inl rfl))

/-- The tile stored for row `r` of the four pooled rows `v`. -/
def payOf (v : FVec F S4x128 .f32) (r : Fin 4) : FVec F S1x256x128 .f32 :=
  match r with
  | 0 => k0_pay2 v
  | 1 => k0_pay3 v
  | 2 => k0_pay4 v
  | 3 => k0_pay5 v

/-- The four stores of a point whose first tile is `b`. -/
def stores (b : ℕ) (h : b + 4 ≤ 8) (v : FVec F S4x128 .f32) : BodyProg F :=
  storeTile ⟨b, by omega⟩ (payOf v 0) >>= fun _ => storeTile ⟨b + 1, by omega⟩ (payOf v 1) >>= fun _ =>
    storeTile ⟨b + 2, by omega⟩ (payOf v 2) >>= fun _ => storeTile ⟨b + 3, by omega⟩ (payOf v 3)

/-- The loads of a point, then `k` on the four pooled rows. -/
def pooled (arg1 : Memref sig .tc .vmem S4x2048x128 .f32) (arg2 : Memref sig .tc .vmem S128x1 .f32)
    (k : FVec F S4x128 .f32 → BodyProg F) : BodyProg F :=
  Prog.lift (.load arg1 (Rect.unit (s := S4x2048x128) ![0, 0, 0] S4x2048x128.size inb_S4x2048x128_S4x2048x128_0_0_0).toLoadRect
    (View.loadsAt_vmem h_S4x2048x128)) >>= fun v0 =>
  Prog.lift (.load arg2 (Rect.unit (s := S128x1) ![0, 0] S128x1.size inb_S128x1_S128x1_0_0).toLoadRect
    (View.loadsAt_vmem h_S128x1)) >>= fun v2 => k (k0_pay1 v0 v2)

/-- The body at the first point. -/
def firstStep (arg1 : Memref sig .tc .vmem S4x2048x128 .f32) (arg2 : Memref sig .tc .vmem S128x1 .f32) : BodyProg F :=
  pooled arg1 arg2 fun v => stores 0 (by omega) v >>= fun _ => issues 32 0 (by omega)

/-- The body at the second point. -/
def secondStep (arg1 : Memref sig .tc .vmem S4x2048x128 .f32) (arg2 : Memref sig .tc .vmem S128x1 .f32) : BodyProg F :=
  pooled arg1 arg2 fun v => stores 4 (by omega) v >>= fun _ => issues 32 32 (by omega) >>= fun _ => waits 64 0 (by omega)

/-- The body as printed, on the result, the scratch buffer and the semaphore it is called with. -/
abbrev bodyOn (i : grid0.Coords) (arg1 : Memref sig .tc .vmem S4x2048x128 .f32) (h1 : arg1.IsWhole)
    (arg2 : Memref sig .tc .vmem S128x1 .f32) (h2 : arg2.IsWhole) : BodyProg F :=
  cc0_attention_summarizer i arg1 h1 arg2 h2 res (Memref.isWhole_whole _) scr (Memref.isWhole_whole _) cc0_scratch1

set_option maxRecDepth 65536 in
/-- At the first point the printed body is `firstStep`. -/
theorem bodyOn_first (arg1 : Memref sig .tc .vmem S4x2048x128 .f32) (h1 : arg1.IsWhole)
    (arg2 : Memref sig .tc .vmem S128x1 .f32) (h2 : arg2.IsWhole) :
    bodyOn (F := F) (grid0.coords t0_0) arg1 h1 arg2 h2 = firstStep arg1 arg2 := by
  chain_rfl

set_option maxRecDepth 65536 in
/-- At the second point the printed body is `secondStep`. -/
theorem bodyOn_second (arg1 : Memref sig .tc .vmem S4x2048x128 .f32) (h1 : arg1.IsWhole)
    (arg2 : Memref sig .tc .vmem S128x1 .f32) (h2 : arg2.IsWhole) :
    bodyOn (F := F) (grid0.coords t0_1) arg1 h1 arg2 h2 = secondStep arg1 arg2 := by
  chain_rfl

end Cert.Attn

end
-- ==== Proof.Contents.lean ====
/-
  What the two buffers hold. The scratch buffer is cut into 8 tiles and the result into 64 windows of the same extent.
  Given the eight tiles `P`, this module names the contents `tileAll P` of the scratch buffer and `resAll P` of the
  result, and shows that a store of `P b` leaves tile `b` as in `tileAll P`, and that copy `j`, reading its tile there,
  leaves its window as in `resAll P`.
-/
module

public import proofs.«01_k».proof.Proof.Program
public import Idealize.ShloMosaic.Lib.Ring
public import Idealize.ShloMosaic.Lib.ValueIdxCore
public import Idealize.ShloMosaic.Lib.Pipeline.ValueKit.Geometry
public import Idealize.ShloMosaic.Lib.Pipeline.FrameValue

@[expose] public section

noncomputable section

namespace Cert.Attn

open Cert.Kernel Cert.Kernel.Gen
open Idealize.ShloMosaic Idealize.ShloMosaic.TcCoe Idealize.ShloMosaic.ValueIdx Idealize.SL.Sem

variable {F : FTy → Type} [FloatOps F]

/-- The elements of tile `b`, and of the window copy `j` fills. -/
abbrev tileSet (b : Fin 8) : Finset S8x256x128.Idx := (tileWin b).view.set
abbrev winSet (j : Fin 64) : Finset S8x2048x128.Idx := (resWin j).view.set

theorem tileSet_eq (b : Fin 8) : tileSet b = (tileRect b).set :=
  (View.set_reshape _ _).trans (View.set_slice_whole _ _)

theorem winSet_eq (j : Fin 64) : winSet j = (winRect j).set :=
  (View.set_reshape _ _).trans (View.set_slice_whole _ _)

theorem mem_tileSet (b : Fin 8) (x : S8x256x128.Idx) : x ∈ tileSet b ↔ (x 0).val = b.val := by
  rw [tileSet_eq, Rect.mem_set_unit]
  constructor
  · intro h
    have h0 := h 0
    have e : S1x256x128.size 0 = 1 := rfl
    simp only [e, Matrix.cons_val_zero] at h0
    omega
  · intro h a
    have h1 : (x 1).val < 256 := (x 1).isLt
    have h2 : (x 2).val < 128 := (x 2).isLt
    match a with
    | 0 => exact ⟨Nat.le_of_eq h.symm, by show (x 0).val < b.val + 1; omega⟩
    | 1 => exact ⟨Nat.zero_le _, by show (x 1).val < 0 + 256; omega⟩
    | 2 => exact ⟨Nat.zero_le _, by show (x 2).val < 0 + 128; omega⟩

theorem mem_winSet (j : Fin 64) (x : S8x2048x128.Idx) :
    x ∈ winSet j ↔ (x 0).val = j.val / 8 ∧ (x 1).val / 256 = j.val % 8 := by
  rw [winSet_eq, Rect.mem_set_unit]
  constructor
  · intro h
    have h0 : j.val / 8 ≤ (x 0).val ∧ (x 0).val < j.val / 8 + 1 := h 0
    have h1 : 256 * (j.val % 8) ≤ (x 1).val ∧ (x 1).val < 256 * (j.val % 8) + 256 := h 1
    omega
  · rintro ⟨h, h'⟩ a
    have h2 : (x 2).val < 128 := (x 2).isLt
    match a with
    | 0 => exact ⟨Nat.le_of_eq h.symm, by show (x 0).val < j.val / 8 + 1; omega⟩
    | 1 =>
      exact ⟨by show 256 * (j.val % 8) ≤ (x 1).val; omega, by show (x 1).val < 256 * (j.val % 8) + 256; omega⟩
    | 2 => exact ⟨Nat.zero_le _, by show (x 2).val < 0 + 128; omega⟩

/-- Distinct tiles share no element, and the tiles are the whole scratch buffer. -/
theorem tileSet_disjoint (b b' : Fin 8) (h : b ≠ b') : Disjoint (tileSet b) (tileSet b') := by
  rw [Finset.disjoint_left]
  intro x hx hx'
  rw [mem_tileSet] at hx hx'
  exact h (Fin.ext (hx.symm.trans hx'))

theorem tileSet_cover : Finset.univ.biUnion tileSet = Finset.univ := by
  ext x
  simp only [Finset.mem_biUnion, Finset.mem_univ, true_and, iff_true]
  exact ⟨⟨(x 0).val, (x 0).isLt⟩, (mem_tileSet _ _).mpr rfl⟩

/-- Distinct windows share no element, and the windows are the whole result. -/
theorem winSet_disjoint (j j' : Fin 64) (h : j ≠ j') : Disjoint (winSet j) (winSet j') := by
  rw [Finset.disjoint_left]
  intro x hx hx'
  rw [mem_winSet] at hx hx'
  exact h (Fin.ext (by omega))

theorem winSet_cover : Finset.univ.biUnion winSet = Finset.univ := by
  ext x
  simp only [Finset.mem_biUnion, Finset.mem_univ, true_and, iff_true]
  have h0 : (x 0).val < 8 := (x 0).isLt
  have h1 : (x 1).val < 2048 := (x 1).isLt
  refine ⟨⟨8 * (x 0).val + (x 1).val / 256, by omega⟩, (mem_winSet _ _).mpr ⟨?_, ?_⟩⟩
  · show (x 0).val = (8 * (x 0).val + (x 1).val / 256) / 8; omega
  · show (x 1).val / 256 = (8 * (x 0).val + (x 1).val / 256) % 8; omega

/-- The scratch buffer with every tile stored. -/
def tileAll (P : Fin 8 → FVec F S1x256x128 .f32) : S8x256x128.Idx → Elt F .f32 :=
  fun x => P ⟨(x 0).val, (x 0).isLt⟩ (ix3 (⟨0, by decide⟩ : Fin 1) (⟨(x 1).val, (x 1).isLt⟩ : Fin 256) (⟨(x 2).val, (x 2).isLt⟩ : Fin 128))

/-- The result with every copy landed: row `i` of batch element `b` is row `i % 256` of tile `b`. -/
def resAll (P : Fin 8 → FVec F S1x256x128 .f32) : S8x2048x128.Idx → Elt F .f32 :=
  fun x => P ⟨(x 0).val, (x 0).isLt⟩ (ix3 (⟨0, by decide⟩ : Fin 1) (⟨(x 1).val % 256, Nat.mod_lt _ (by decide)⟩ : Fin 256) (⟨(x 2).val, (x 2).isLt⟩ : Fin 128))

/-- Under tile `b`'s rectangle the scratch buffer reads the tile. -/
theorem tileAll_emb (P : Fin 8 → FVec F S1x256x128 .f32) (b : Fin 8) (z : S1x256x128.Idx) :
    tileAll P ((tileRect b).emb z) = P b z := by
  have e0 : (((tileRect b).emb z) 0).val = b.val + (z 0).val := ValueKit.rect_emb_unit_val _ _ _ _ _
  have e1 : (((tileRect b).emb z) 1).val = 0 + (z 1).val := ValueKit.rect_emb_unit_val _ _ _ _ _
  have e2 : (((tileRect b).emb z) 2).val = 0 + (z 2).val := ValueKit.rect_emb_unit_val _ _ _ _ _
  have hz : (z 0).val < 1 := (z 0).isLt
  unfold tileAll
  refine congrArg₂ (fun b z => P b z) (Fin.ext ?_) (funext fun a => Fin.ext ?_)
  · show (((tileRect b).emb z) 0).val = b.val; omega
  · match a with
    | 0 => show 0 = (z 0).val; omega
    | 1 => show (((tileRect b).emb z) 1).val = (z 1).val; omega
    | 2 => show (((tileRect b).emb z) 2).val = (z 2).val; omega

/-- Under copy `j`'s rectangle the result reads the tile the copy takes. -/
theorem resAll_emb (P : Fin 8 → FVec F S1x256x128 .f32) (j : Fin 64) (z : S1x256x128.Idx) :
    resAll P ((winRect j).emb z) = P (tileOf j) z := by
  have e0 : (((winRect j).emb z) 0).val = j.val / 8 + (z 0).val := ValueKit.rect_emb_unit_val _ _ _ _ _
  have e1 : (((winRect j).emb z) 1).val = 256 * (j.val % 8) + (z 1).val := ValueKit.rect_emb_unit_val _ _ _ _ _
  have e2 : (((winRect j).emb z) 2).val = 0 + (z 2).val := ValueKit.rect_emb_unit_val _ _ _ _ _
  have hz : (z 0).val < 1 := (z 0).isLt
  have hz1 : (z 1).val < 256 := (z 1).isLt
  unfold resAll
  refine congrArg₂ (fun b z => P b z) (Fin.ext ?_) (funext fun a => Fin.ext ?_)
  · show (((winRect j).emb z) 0).val = j.val / 8; omega
  · match a with
    | 0 => show 0 = (z 0).val; omega
    | 1 => show (((winRect j).emb z) 1).val % 256 = (z 1).val; omega
    | 2 => show (((winRect j).emb z) 2).val = (z 2).val; omega

/-- A store of `P b` over tile `b` leaves the tile's elements as in `tileAll P`. -/
theorem stored_eq (P : Fin 8 → FVec F S1x256x128 .f32) (b : Fin 8) (f : S8x256x128.Idx → Elt F .f32) (x : S8x256x128.Idx)
    (hx : x ∈ tileSet b) : ((scr.access (tileRect b)).write (Elt F) f (P b) Finset.univ) x = tileAll P x := by
  rw [tileSet_eq, ← Rect.map_emb_univ, Finset.mem_map] at hx
  obtain ⟨z, -, rfl⟩ := hx
  exact (View.write_emb_of_mem (v := scr.access (tileRect b)) (Val := Elt F) f (P b) (Finset.mem_univ z)).trans (tileAll_emb P b z).symm

/-- Copy `j`, reading its tile of `tileAll P`, leaves its window's elements as in `resAll P`. -/
theorem landed_eq (P : Fin 8 → FVec F S1x256x128 .f32) (j : Fin 64) (f : S8x2048x128.Idx → Elt F .f32) (x : S8x2048x128.Idx)
    (hx : x ∈ winSet j) :
    ((resWin j).view.write (Elt F) f (ReadAs.same.apply ((tileWin (tileOf j)).view.read (Elt F) (tileAll P))) Finset.univ) x
      = resAll P x := by
  rw [winSet, View.set, Finset.mem_map] at hx
  obtain ⟨y, -, rfl⟩ := hx
  refine (View.write_emb_of_mem (v := (resWin j).view) (Val := Elt F) f _ (Finset.mem_univ y)).trans ?_
  exact (tileAll_emb P (tileOf j) (Shape.reshapeEquiv (by decide) y)).trans
    (resAll_emb P j (Shape.reshapeEquiv (by decide) y)).symm

end Cert.Attn

end
-- ==== Proof.Steps.lean ====
/-
  The body's operations, one rule each. Resources are named first: tile `b` of the scratch buffer, the window copy `j`
  fills, what copy `j` is lent and what it hands back. Then the store of a tile, the start of a copy, a run of copies,
  and the run of 64 waits after which every copy has landed.
-/
module

public import proofs.«01_k».proof.Proof.Contents
public import Idealize.ShloMosaic.Lib.Pipeline.FrameBody
public import Idealize.ShloMosaic.Lib.Pipeline.FrameValue
public import Idealize.ShloMosaic.Lib.Batch
public import Idealize.ShloMosaic.Lib.Tactic
public import Idealize.ShloMosaic.Lib.VecWindow

@[expose] public section

noncomputable section

namespace Cert.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ (Pipeline.UD sig nD τ) ℕ

/-! ## Resources -/

/-- The scratch buffer's and the result's contents. -/
abbrev ScrBuf (F : FTy → Type) : Type := S8x256x128.Idx → Elt F .f32
abbrev ResBuf (F : FTy → Type) : Type := S8x2048x128.Idx → Elt F .f32

/-- Share `q` of tile `b`, the scratch buffer's contents being `f` there. -/
def tilePt (c : Dev nD) (q : PosShare TreeShare) (f : ScrBuf F) (b : Fin 8) : sProp 𝕄 :=
  (tileWin b).view.loc (c : Thread nD τ) ↦[(tileWin b).view.set]{q} f

/-- The window of copy `j`, the result's contents being `g` there. -/
def winPt (c : Dev nD) (g : ResBuf F) (j : Fin 64) : sProp 𝕄 :=
  (resWin j).view.loc (c : Thread nD τ) ↦[(resWin j).view.set]{fullShare} g

/-- The share of its tile that copy `j` reads. -/
def tokPt (c : Dev nD) (f : ScrBuf F) (j : Fin 64) : sProp 𝕄 :=
  tilePt c (shareTokN fullShare (j.val % 8)) f (tileOf j)

/-- What copy `j` hands back: its window landed, and the share of its tile. -/
def back (c : Dev nD) (P : Fin 8 → FVec F S1x256x128 .f32) (j : Fin 64) : sProp 𝕄 :=
  iprop(winPt c (resAll P) j ∗ tokPt c (tileAll P) j)

instance back_storable (c : Dev nD) (P : Fin 8 → FVec F S1x256x128 .f32) (j : Fin 64) :
    Storable (upEmb : UEmb _ 𝕄) (back c P j) := by
  unfold back tokPt tilePt winPt; infer_instance

/-- The one semaphore every copy completes on. -/
abbrev dsem : DmaSem sig := cc0_scratch1.sem

/-- What one copy adds to the semaphore. -/
abbrev amt : ℕ := (resWin 0).view.amount (SemLoc.dma (sig := sig) dsem)

theorem amt_pos : 0 < amt := by decide

/-- The first `k` copies started and `u` of what they add already waited for. -/
abbrev flight (c : Dev nD) (P : Fin 8 → FVec F S1x256x128 .f32) (k u : ℕ) : sProp 𝕄 :=
  Batch (countersEmb (U := Pipeline.UD sig nD τ)) (c : Thread nD τ) (.dma dsem) () amt (back c P) k u

/-- A family over `n` consecutive indices from `j`, conjoined in order. -/
def seqSep {m : ℕ} (X : Fin m → sProp 𝕄) : (n j : ℕ) → j + n ≤ m → sProp 𝕄
  | 0, _, _ => iprop(emp)
  | n + 1, j, h => iprop(X ⟨j, by omega⟩ ∗ seqSep X n (j + 1) (by omega))

theorem pending_eq_seqSep {m : ℕ} (X : Fin m → sProp 𝕄) : ∀ (n j : ℕ) (h : j + n ≤ m), j + n = m →
    bigSep (pending j) X = seqSep X n j h
  | 0, j, h, e => by
    have : (pending j : Finset (Fin m)) = ∅ := by
      ext t; have := t.isLt; simp only [pending, Finset.mem_filter, Finset.mem_univ, true_and, Finset.notMem_empty, iff_false]; omega
    rw [this, bigSep_empty]; rfl
  | n + 1, j, h, e => by
    rw [bigSep_pending_step X j (by omega), pending_eq_seqSep X n (j + 1) (by omega) (by omega)]; rfl

/-- A family over all indices is the family in order from the first. -/
theorem bigSep_eq_seqSep {m : ℕ} (X : Fin m → sProp 𝕄) : bigSep Finset.univ X = seqSep X m 0 (by omega) := by
  rw [bigSep_pending_zero, pending_eq_seqSep X m 0 (by omega) (by omega)]

theorem seqSep_congr {m : ℕ} {X Y : Fin m → sProp 𝕄} (h : ∀ i, X i = Y i) (n j : ℕ) (hn : j + n ≤ m) :
    seqSep X n j hn = seqSep Y n j hn := by rw [funext h]

theorem sep_assoc_eq (A B C : sProp 𝕄) : iprop((A ∗ B) ∗ C) = iprop(A ∗ B ∗ C) :=
  Entails.antisymm sep_assoc sep_assoc'

/-- A run of `n + k` indices is the first `n` and the `k` after them. -/
theorem seqSep_add {m : ℕ} (X : Fin m → sProp 𝕄) (k : ℕ) : ∀ (n j : ℕ) (h : j + (n + k) ≤ m),
    seqSep X (n + k) j h = iprop(seqSep X n j (by omega) ∗ seqSep X k (j + n) (by omega))
  | 0, j, h => by
    have e : seqSep X (0 + k) j h = seqSep X k (j + 0) (by omega) := by congr 1; omega
    rw [e]; exact (equiv_iff.mp emp_sep).symm
  | n + 1, j, h => by
    have e : seqSep X (n + 1 + k) j h = seqSep X ((n + k) + 1) j (by omega) := by congr 1; omega
    have e' : seqSep X k (j + 1 + n) (by omega) = seqSep X k (j + (n + 1)) (by omega) := by congr 1; omega
    rw [e, seqSep, seqSep_add X k n (j + 1) (by omega), seqSep, sep_assoc_eq, e']

theorem sep_swap (A B C D : sProp 𝕄) : iprop((A ∗ B) ∗ C ∗ D) = iprop((A ∗ C) ∗ B ∗ D) := by
  have h : ∀ A B C D : sProp 𝕄, iprop((A ∗ B) ∗ C ∗ D) ⊢ iprop((A ∗ C) ∗ B ∗ D) := fun A B C D => by
    iintro ⟨⟨HA, HB⟩, HC, HD⟩
    isplitl [HA HC]
    · isplitl [HA] <;> iassumption
    isplitl [HB] <;> iassumption
  exact Entails.antisymm (h A B C D) (h A C B D)

theorem sep_rot (A B C : sProp 𝕄) : iprop((A ∗ B) ∗ C) = iprop(A ∗ C ∗ B) := by
  have h : iprop((A ∗ B) ∗ C) ⊢ iprop(A ∗ C ∗ B) := by
    iintro ⟨⟨HA, HB⟩, HC⟩
    isplitl [HA]; · iexact HA
    isplitl [HC] <;> iassumption
  have h' : iprop(A ∗ C ∗ B) ⊢ iprop((A ∗ B) ∗ C) := by
    iintro ⟨HA, HC, HB⟩
    isplitl [HA HB]
    · isplitl [HA] <;> iassumption
    iexact HC
  exact Entails.antisymm h h'

/-- Two families run in step are the two runs. -/
theorem seqSep_sep {m : ℕ} (X Y : Fin m → sProp 𝕄) : ∀ (n j : ℕ) (h : j + n ≤ m),
    seqSep (fun i => iprop(X i ∗ Y i)) n j h = iprop(seqSep X n j h ∗ seqSep Y n j h)
  | 0, _, _ => (equiv_iff.mp emp_sep).symm
  | n + 1, j, h => by
    rw [seqSep, seqSep_sep X Y n (j + 1) (by omega), seqSep, seqSep]
    exact sep_swap _ _ _ _

/-! ## Tiles and the shares of them that copies read -/

/-- What is left of tile `b` beside the shares its eight copies read. -/
def restPt (c : Dev nD) (f : ScrBuf F) (b : Fin 8) : sProp 𝕄 := tilePt c (shareDrop fullShare 8) f b

/-- After `i` shares of tile `b` are dealt, the remaining copies' shares come off what is left. -/
theorem tile_deal (c : Dev nD) (f : ScrBuf F) (b : Fin 8) : ∀ (n i : ℕ) (h : 8 * b.val + i + n ≤ 64), i + n = 8 →
    tilePt c (shareDrop fullShare i) f b = iprop(restPt c f b ∗ seqSep (tokPt c f) n (8 * b.val + i) h)
  | 0, i, h, e => by
    obtain rfl : i = 8 := by omega
    exact (equiv_iff.mp sep_emp).symm
  | n + 1, i, h, e => by
    have ht : tokPt c f ⟨8 * b.val + i, by omega⟩ = tilePt c (shareTokN fullShare i) f b := by
      unfold tokPt
      have h1 : (8 * b.val + i) % 8 = i := by omega
      have h2 : tileOf ⟨8 * b.val + i, by omega⟩ = b := Fin.ext (by show (8 * b.val + i) / 8 = b.val; omega)
      rw [h2]; simp only [h1]
    have hs : tilePt c (shareDrop fullShare i) f b
        = iprop(tilePt c (shareDrop fullShare (i + 1)) f b ∗ tilePt c (shareTokN fullShare i) f b) :=
      Entails.antisymm (pointsTo_share (PosShare.mem_left_op_right _)).1 (pointsTo_share (PosShare.mem_left_op_right _)).2
    have e' : seqSep (tokPt c f) n (8 * b.val + (i + 1)) (by omega) = seqSep (tokPt c f) n (8 * b.val + i + 1) (by omega) := rfl
    rw [hs, tile_deal c f b n (i + 1) (by omega) (by omega), seqSep, ht, e']
    exact sep_rot _ _ _

/-- `n` whole tiles from tile `b` are what is left of each beside its copies' shares, and those shares. -/
theorem tiles_deal (c : Dev nD) (f : ScrBuf F) : ∀ (n b : ℕ) (h : b + n ≤ 8),
    seqSep (tilePt c fullShare f) n b h
      = iprop(seqSep (restPt c f) n b h ∗ seqSep (tokPt c f) (8 * n) (8 * b) (by omega))
  | 0, _, _ => (equiv_iff.mp emp_sep).symm
  | n + 1, b, h => by
    have e : seqSep (tokPt c f) (8 * (n + 1)) (8 * b) (by omega) = seqSep (tokPt c f) (8 + 8 * n) (8 * b) (by omega) := by
      congr 1; omega
    have e' : seqSep (tokPt c f) (8 * n) (8 * (b + 1)) (by omega) = seqSep (tokPt c f) (8 * n) (8 * b + 8) (by omega) := rfl
    have ht := tile_deal c f ⟨b, by omega⟩ 8 0 (by show 8 * b + 0 + 8 ≤ 64; omega) rfl
    rw [e, seqSep_add _ (8 * n) 8, seqSep, tiles_deal c f n (b + 1) (by omega), seqSep, e']
    rw [show tilePt c fullShare f ⟨b, by omega⟩ = _ from ht]
    exact sep_swap _ _ _ _

/-- The scratch buffer whole is its eight tiles. -/
theorem scr_tiles (c : Dev nD) (f : ScrBuf F) :
    (((c : Thread nD τ).loc cc0_scratch0 ↦{fullShare} f : sProp 𝕄)) = seqSep (tilePt c fullShare f) 8 0 (by omega) := by
  rw [← bigSep_eq_seqSep]
  exact Ring.pointsTo_blocks (ℓ := (c : Thread nD τ).loc cc0_scratch0) tileSet tileSet_disjoint tileSet_cover f

/-- The result whole is its 64 windows. -/
theorem res_wins (c : Dev nD) (g : ResBuf F) :
    (((c : Thread nD τ).loc main_v2 ↦{fullShare} g : sProp 𝕄)) = seqSep (winPt c g) 64 0 (by omega) := by
  rw [← bigSep_eq_seqSep]
  exact Ring.pointsTo_blocks (ℓ := (c : Thread nD τ).loc main_v2) winSet winSet_disjoint winSet_cover g

/-! ## The operations -/

/-- Weakest preconditions of body programs on core `c`. -/
abbrev bwp (c : Dev nD) (p : BodyProg F) (Q : PUnit → sProp 𝕄) : sProp 𝕄 :=
  wp frame (wpE (defs₀ (F := F)) Variants.none (c : Thread nD τ) none) Set.univ p Q

/-- Storing `P b` over tile `b` leaves the tile as in `tileAll P`. -/
theorem store_rule (c : Dev nD) (P : Fin 8 → FVec F S1x256x128 .f32) (b : Fin 8) (f : ScrBuf F)
    (k : PUnit → BodyProg F) (Q : PUnit → sProp 𝕄) :
    tilePt c fullShare f b ⊢ iprop((tilePt c fullShare (tileAll P) b -∗ bwp c (k ⟨⟩) Q) -∗ bwp c (storeTile b (P b) >>= k) Q) := by
  have hs : (((scr.access (tileRect b)).loc (c : Thread nD τ) ↦[(tileWin b).view.set]{fullShare}
        ((scr.access (tileRect b)).write (Elt F) f (P b) Finset.univ) : sProp 𝕄)) ⊢ tilePt c fullShare (tileAll P) b :=
    Entails.of_eq (pointsTo_congr (fun x hx => stored_eq P b f x hx))
  unfold tilePt at hs ⊢
  unfold storeTile bwp
  iintro H Hk
  iapply (wp_load (defs := defs₀ (F := F)) Variants.none (c : Thread nD τ) none Set.univ (m := scr) (r := (tileRect b).toLoadRect)
    (S := (tileWin b).view.set) (q := fullShare) (f := f)
    (by rw [show (tileWin b).view.set = _ from tileSet_eq b]; exact Finset.map_refl.subset)) $$ H
  iintro H
  iapply (wp_store (defs := defs₀ (F := F)) Variants.none (c : Thread nD τ) none Set.univ (m := scr) (r := tileRect b) (w := P b)
    (Mk := Finset.univ) (S := (tileWin b).view.set) (f := f)
    (by rw [show (tileWin b).view.set = _ from tileSet_eq b, View.setOn_univ]; exact (View.set_slice_whole _ _).subset)) $$ H
  iintro H
  iapply Hk
  iapply hs
  iexact H

/-- Starting copy `j` takes its window and the share of its tile, and counts one more copy in flight. -/
theorem issue_rule (c : Dev nD) (P : Fin 8 → FVec F S1x256x128 .f32) (g : ResBuf F) (j : Fin 64)
    (k : PUnit → BodyProg F) (Q : PUnit → sProp 𝕄) :
    iprop((winPt c g j ∗ tokPt c (tileAll P) j) ∗ flight c P j.val 0)
      ⊢ iprop((flight c P (j.val + 1) 0 -∗ bwp c (k ⟨⟩) Q) -∗ bwp c (issueAt j >>= k) Q) := by
  unfold winPt tokPt tilePt issueAt bwp
  iintro ⟨⟨Hw, Ht⟩, HB⟩ Hk
  iapply (wp_dmaBatch (countersEmb (U := Pipeline.UD sig nD τ)) Variants.none (c : Thread nD τ) none (src := tileWin (tileOf j)) (dst := resWin j)
    () amt rfl subset_rfl (q := shareTokN fullShare (j.val % 8)) (fs := tileAll P) (fd := g) (D := back c P) (j := j.val) (u := 0) j.isLt (Nat.zero_le _)
    (by unfold back winPt tokPt tilePt
        rw [pointsTo_congr (fun x hx => landed_eq P j g x hx)])) $$ [Hw Ht HB]
  · isplitl [Ht]; · iexact Ht
    isplitl [Hw]; · iexact Hw
    iexact HB
  iintro HB
  iapply Hk
  iexact HB

/-- Starting `n` copies from copy `j`. -/
theorem issues_rule (c : Dev nD) (P : Fin 8 → FVec F S1x256x128 .f32) (g : ResBuf F) (k : PUnit → BodyProg F) (Q : PUnit → sProp 𝕄) :
    ∀ (n j : ℕ) (h : j + n ≤ 64),
      iprop(seqSep (fun j => iprop(winPt c g j ∗ tokPt c (tileAll P) j)) n j h ∗ flight c P j 0)
        ⊢ iprop((flight c P (j + n) 0 -∗ bwp c (k ⟨⟩) Q) -∗ bwp c (issues n j h >>= k) Q)
  | 0, j, h => by
    unfold issues
    iintro ⟨-, HB⟩ Hk
    iapply Hk
    iexact HB
  | n + 1, j, h => by
    unfold issues seqSep
    rw [bind_assoc]
    have hj : j < 64 := by omega
    have hj' : j + 1 + n ≤ 64 := by omega
    have ih := issues_rule c P g k Q n (j + 1) hj'
    rw [show j + 1 + n = j + (n + 1) by omega] at ih
    iintro ⟨⟨H, Hs⟩, HB⟩ Hk
    iapply (issue_rule c P g ⟨j, hj⟩ (fun _ => issues n (j + 1) hj' >>= k) Q) $$ [H HB]
    · isplitl [H] <;> iassumption
    iintro HB
    iapply ih $$ [Hs HB]
    · isplitl [Hs] <;> iassumption
    iexact Hk

/-- Waiting for what is left to wait for, `n` waits of it: the last returns every copy and the semaphore at zero. -/
theorem waits_rule (c : Dev nD) (P : Fin 8 → FVec F S1x256x128 .f32) (k : PUnit → BodyProg F) (Q : PUnit → sProp 𝕄) :
    ∀ (n j u : ℕ) (h : j + (n + 1) ≤ 64) (_ : u + (n + 1) * amt = amt * 64) (W : Waits sig Unit),
      iprop(flight c P 64 u ∗ owes (c : Thread nD τ) 0 W)
        ⊢ iprop((iprop(bigSep Finset.univ (back c P) ∗ semVal ((c : Thread nD τ), SemLoc.dma dsem) 0 ∗ ∃ W', owes (c : Thread nD τ) 0 W') -∗ bwp c (k ⟨⟩) Q)
            -∗ bwp c (waits (n + 1) j h >>= k) Q)
  | 0, j, u, h, hu, W => by
    have hj : j < 64 := by omega
    have hu' : u + amt = amt * 64 := by omega
    unfold waits waits waitAt bwp
    iintro ⟨HB, HO⟩ Hk
    iapply (wp_waitBatchLast (countersEmb (U := Pipeline.UD sig nD τ)) Variants.none (c : Thread nD τ) none
      (srcw := tileWin (tileOf ⟨j, hj⟩)) (dstw := resWin ⟨j, hj⟩) () (N := amt) rfl amt_pos
      (D := back c P) (u := u) hu') $$ [HB HO]
    · isplitl [HB] <;> iassumption
    iintro ⟨HD, Hv, HO⟩
    iapply Hk
    isplitl [HD]; · iexact HD
    isplitl [Hv]; · iexact Hv
    iexists _; iexact HO
  | n + 1, j, u, h, hu, W => by
    have hn : (n + 1 + 1) * amt = (n + 1) * amt + amt := Nat.succ_mul _ _
    have hn' : (n + 1) * amt = n * amt + amt := Nat.succ_mul _ _
    have hpos := amt_pos
    have hj : j < 64 := by omega
    have hj' : j + 1 + (n + 1) ≤ 64 := by omega
    have hu' : u + amt < amt * 64 := by omega
    have hu'' : u + amt + (n + 1) * amt = amt * 64 := by omega
    unfold waits waitAt
    rw [bind_assoc]
    iintro ⟨HB, HO⟩ Hk
    unfold bwp
    iapply (wp_waitBatch (countersEmb (U := Pipeline.UD sig nD τ)) Variants.none (c : Thread nD τ) none
      (srcw := tileWin (tileOf ⟨j, hj⟩)) (dstw := resWin ⟨j, hj⟩) () (N := amt) rfl
      (D := back c P) (u := u) hu') $$ [HB HO]
    · isplitl [HB] <;> iassumption
    iintro ⟨HB, HO⟩
    iapply (waits_rule c P k Q n (j + 1) (u + amt) hj' hu'' _) $$ [HB HO]
    · isplitl [HB] <;> iassumption
    iexact Hk

end Cert.Attn

end
-- ==== Proof.Points.lean ====
/-
  The body at its two points. From the scratch buffer, the result and the semaphore at zero, the first point leaves 32
  copies in flight; from there the second point leaves the result with every window landed, the scratch buffer whole
  again and the semaphore at zero.
-/
module

public import proofs.«01_k».proof.Proof.Steps

@[expose] public section

noncomputable section

namespace Cert.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ (Pipeline.UD sig nD τ) ℕ

/-- The two staged blocks of a point: the rows of `H` and the weights. -/
abbrev blocks (c : Dev nD) (arg1 : Memref sig .tc .vmem S4x2048x128 .f32) (arg2 : Memref sig .tc .vmem S128x1 .f32)
    (x1 : FVec F S4x2048x128 .f32) (x2 : FVec F S128x1 .f32) : sProp 𝕄 :=
  iprop(owns (c : Thread nD τ) arg1 fullShare x1 ∗ owns (c : Thread nD τ) arg2 fullShare x2)

/-- The loads of a point read its blocks and leave them in place. -/
theorem pooled_rule (c : Dev nD) (arg1 : Memref sig .tc .vmem S4x2048x128 .f32) (arg2 : Memref sig .tc .vmem S128x1 .f32)
    (x1 : FVec F S4x2048x128 .f32) (x2 : FVec F S128x1 .f32) (k : FVec F S4x128 .f32 → BodyProg F) (Q : PUnit → sProp 𝕄) :
    blocks c arg1 arg2 x1 x2
      ⊢ iprop((blocks c arg1 arg2 x1 x2 -∗ bwp c (k (k0_pay1 x1 x2)) Q) -∗ bwp c (pooled arg1 arg2 k) Q) := by
  unfold blocks owns pooled bwp
  iintro ⟨⟨%f1, %h1, H1⟩, %f2, %h2, H2⟩ Hk
  iapply (wp_load (defs := defs₀ (F := F)) Variants.none (c : Thread nD τ) none Set.univ (m := arg1)
    (S := arg1.view.set) (q := fullShare) (f := f1) (View.setOn_subset_set _ _)) $$ H1
  iintro H1
  rw [View.readAt_full arg1.view f1, h1]
  iapply (wp_load (defs := defs₀ (F := F)) Variants.none (c : Thread nD τ) none Set.univ (m := arg2)
    (S := arg2.view.set) (q := fullShare) (f := f2) (View.setOn_subset_set _ _)) $$ H2
  iintro H2
  rw [View.readAt_full arg2.view f2, h2]
  iapply Hk
  isplitl [H1]
  · iexists f1; isplitr; · ipureintro; exact h1
    iexact H1
  iexists f2; isplitr; · ipureintro; exact h2
  iexact H2

/-- The four stores of a point whose first tile is `b`. -/
theorem stores_rule (c : Dev nD) (P : Fin 8 → FVec F S1x256x128 .f32) (f : ScrBuf F) (b : ℕ) (h : b + 4 ≤ 8) (v : FVec F S4x128 .f32)
    (hP : ∀ r : Fin 4, P ⟨b + r.val, by omega⟩ = payOf v r) (k : PUnit → BodyProg F) (Q : PUnit → sProp 𝕄) :
    seqSep (tilePt c fullShare f) 4 b h
      ⊢ iprop((seqSep (tilePt c fullShare (tileAll P)) 4 b h -∗ bwp c (k ⟨⟩) Q) -∗ bwp c (stores b h v >>= k) Q) := by
  have h0 : b < 8 := by omega
  have h1 : b + 1 < 8 := by omega
  have h2 : b + 2 < 8 := by omega
  have h3 : b + 3 < 8 := by omega
  unfold stores
  rw [← hP 0, ← hP 1, ← hP 2, ← hP 3]
  simp only [seqSep, bind_assoc]
  iintro ⟨T0, T1, T2, T3, HE⟩ Hk
  iapply (store_rule c P ⟨b, h0⟩ f _ Q) $$ T0
  iintro T0
  iapply (store_rule c P ⟨b + 1, h1⟩ f _ Q) $$ T1
  iintro T1
  iapply (store_rule c P ⟨b + 2, h2⟩ f _ Q) $$ T2
  iintro T2
  iapply (store_rule c P ⟨b + 3, h3⟩ f _ Q) $$ T3
  iintro T3
  iapply Hk
  isplitl [T0]; · iexact T0
  isplitl [T1]; · iexact T1
  isplitl [T2]; · iexact T2
  isplitl [T3]; · iexact T3
  iexact HE

/-- Between the points: 32 copies in flight, what is left of their tiles, the other tiles, the other windows. -/
def mid (c : Dev nD) (P : Fin 8 → FVec F S1x256x128 .f32) (f : ScrBuf F) (g : ResBuf F) : sProp 𝕄 :=
  iprop(flight c P 32 0 ∗ seqSep (restPt c (tileAll P)) 4 0 (by omega) ∗ seqSep (tilePt c fullShare f) 4 4 (by omega)
    ∗ seqSep (winPt c g) 32 32 (by omega))

/-- Four stores and the 32 copies of the tiles stored, from 32 copies or none already in flight. -/
theorem half_rule (c : Dev nD) (P : Fin 8 → FVec F S1x256x128 .f32) (f : ScrBuf F) (g : ResBuf F) (b : ℕ) (h : b + 4 ≤ 8)
    (v : FVec F S4x128 .f32) (hP : ∀ r : Fin 4, P ⟨b + r.val, by omega⟩ = payOf v r) (k : PUnit → BodyProg F) (Q : PUnit → sProp 𝕄) :
    iprop(seqSep (tilePt c fullShare f) 4 b h ∗ seqSep (winPt c g) 32 (8 * b) (by omega) ∗ flight c P (8 * b) 0)
      ⊢ iprop((iprop(seqSep (restPt c (tileAll P)) 4 b h ∗ flight c P (8 * b + 32) 0) -∗ bwp c (k ⟨⟩) Q)
          -∗ bwp c (stores b h v >>= fun _ => issues 32 (8 * b) (by omega) >>= k) Q) := by
  have hb : 8 * b + 32 ≤ 64 := by omega
  iintro ⟨HT, HW, HB⟩ Hk
  iapply (stores_rule c P f b h v hP _ Q) $$ HT
  iintro HT
  ihave HT' := (Entails.of_eq (tiles_deal c (tileAll P) 4 b h)) $$ HT
  icases HT' with ⟨HR, HT⟩
  iapply (issues_rule c P g k Q 32 (8 * b) hb) $$ [HW HT HB]
  · isplitl [HW HT]
    · rw [seqSep_sep]
      isplitl [HW] <;> iassumption
    iexact HB
  iintro HB
  iapply Hk
  isplitl [HR] <;> iassumption

/-- The first point. -/
theorem first_rule (c : Dev nD) (P : Fin 8 → FVec F S1x256x128 .f32) (f : ScrBuf F) (g : ResBuf F)
    (arg1 : Memref sig .tc .vmem S4x2048x128 .f32) (arg2 : Memref sig .tc .vmem S128x1 .f32)
    (x1 : FVec F S4x2048x128 .f32) (x2 : FVec F S128x1 .f32)
    (hP : ∀ r : Fin 4, P ⟨0 + r.val, by omega⟩ = payOf (k0_pay1 x1 x2) r) :
    iprop(blocks c arg1 arg2 x1 x2 ∗ (((c : Thread nD τ).loc cc0_scratch0) ↦{fullShare} f) ∗ (((c : Thread nD τ).loc main_v2) ↦{fullShare} g)
        ∗ semVal ((c : Thread nD τ), SemLoc.dma dsem) 0)
      ⊢ bwp c (firstStep arg1 arg2) (fun _ => iprop(blocks c arg1 arg2 x1 x2 ∗ mid c P f g)) := by
  rw [scr_tiles, res_wins, show seqSep (tilePt c fullShare f) 8 0 (by omega) = _ from seqSep_add _ 4 4 0 (by omega),
    show seqSep (winPt c g) 64 0 (by omega) = _ from seqSep_add _ 32 32 0 (by omega)]
  have h4 : 0 + 4 ≤ 8 := by omega
  unfold firstStep mid
  iintro ⟨HX, ⟨HT, HT'⟩, ⟨HW, HW'⟩, Hv⟩
  imod (Transfers.batch_alloc' (Lvl := ℕ) (countersEmb (U := Pipeline.UD sig nD τ)) (c : Thread nD τ) () amt (back c P) (sm := .dma dsem) (E := Set.univ)) $$ Hv with HB
  iapply (pooled_rule c arg1 arg2 x1 x2 _ _) $$ HX
  iintro HX
  rw [← bind_pure (issues (F := F) 32 0 (by omega))]
  iapply (half_rule c P f g 0 h4 _ hP (fun _ => pure ⟨⟩) _) $$ [HT HW HB]
  · isplitl [HT]; · iexact HT
    isplitl [HW]; · iexact HW
    iexact HB
  iintro ⟨HR, HB⟩
  unfold bwp
  sl_step
  isplitl [HX]; · iexact HX
  isplitl [HB]; · iexact HB
  isplitl [HR]; · iexact HR
  isplitl [HT']; · iexact HT'
  iexact HW'

/-- The second point. -/
theorem second_rule (c : Dev nD) (P : Fin 8 → FVec F S1x256x128 .f32) (f : ScrBuf F) (g : ResBuf F)
    (arg1 : Memref sig .tc .vmem S4x2048x128 .f32) (arg2 : Memref sig .tc .vmem S128x1 .f32)
    (x1 : FVec F S4x2048x128 .f32) (x2 : FVec F S128x1 .f32)
    (hP : ∀ r : Fin 4, P ⟨4 + r.val, by omega⟩ = payOf (k0_pay1 x1 x2) r) (W : Waits sig Unit) :
    iprop(blocks c arg1 arg2 x1 x2 ∗ mid c P f g ∗ owes (c : Thread nD τ) 0 W)
      ⊢ bwp c (secondStep arg1 arg2) (fun _ => iprop(blocks c arg1 arg2 x1 x2
          ∗ (((c : Thread nD τ).loc cc0_scratch0) ↦{fullShare} tileAll P) ∗ (((c : Thread nD τ).loc main_v2) ↦{fullShare} resAll P)
          ∗ semVal ((c : Thread nD τ), SemLoc.dma dsem) 0 ∗ ∃ W', owes (c : Thread nD τ) 0 W')) := by
  rw [scr_tiles, res_wins, tiles_deal c (tileAll P) 8 0 (by omega),
    show seqSep (restPt c (tileAll P)) 8 0 (by omega) = _ from seqSep_add _ 4 4 0 (by omega)]
  have hall : bigSep Finset.univ (back c P)
      ⊢ iprop(seqSep (winPt c (resAll P)) 64 0 (by omega) ∗ seqSep (tokPt c (tileAll P)) (8 * 8) (8 * 0) (by omega)) := by
    rw [bigSep_eq_seqSep]
    exact Entails.of_eq (seqSep_sep (winPt c (resAll P)) (tokPt c (tileAll P)) 64 0 (by omega))
  have h4 : 4 + 4 ≤ 8 := by omega
  have h64 : 0 + (63 + 1) ≤ 64 := by omega
  have h64' : 0 + (63 + 1) * amt = amt * 64 := by omega
  unfold secondStep mid
  iintro ⟨HX, ⟨HB, HR, HT, HW⟩, HO⟩
  iapply (pooled_rule c arg1 arg2 x1 x2 _ _) $$ HX
  iintro HX
  rw [← bind_pure (waits (F := F) 64 0 (by omega))]
  iapply (half_rule c P f g 4 h4 _ hP _ _) $$ [HT HW HB]
  · isplitl [HT]; · iexact HT
    isplitl [HW]; · iexact HW
    iexact HB
  iintro ⟨HR', HB⟩
  iapply (waits_rule c P (fun _ => pure ⟨⟩) _ 63 0 0 h64 h64' W) $$ [HB HO]
  · isplitl [HB] <;> iassumption
  iintro ⟨HD, Hv, HO⟩
  ihave HD' := hall $$ HD
  icases HD' with ⟨HW, HT⟩
  unfold bwp
  sl_step
  isplitl [HX]; · iexact HX
  isplitl [HR HR' HT]
  · isplitl [HR HR']
    · isplitl [HR] <;> iassumption
    iexact HT
  isplitl [HW]; · iexact HW
  isplitl [Hv]; · iexact Hv
  iexact HO

end Cert.Attn

end
-- ==== Proof.Run.lean ====
/-
  The whole run of the kernel's program, at any instance of the floating-point operations: it ends, its argument arrays
  are as they were, every semaphore is at zero, and the result holds `resAll` of the tiles computed from the staged
  blocks.
-/
module

public import proofs.«01_k».proof.Proof.Points
public import proofs.«01_k».proof.Proof.Gen.Kernel.Frame

@[expose] public section

noncomputable section

namespace Cert.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the run computes -/

/-- The four pooled rows of point `t`, from the blocks staged there. -/
def rowsAt (c : Dev nD) (t : Fin cfg0.N) : FVec F S4x128 .f32 := k0_pay1 (iblk m c 0 t) (iblk m c 1 t)

/-- The eight tiles: tile `b` repeats row `b % 4` of point `b / 4`. -/
def tiles (c : Dev nD) (b : Fin 8) : FVec F S1x256x128 .f32 :=
  payOf (rowsAt m c (if b.val < 4 then t0_0 else t0_1)) ⟨b.val % 4, Nat.mod_lt _ (by decide)⟩

theorem tiles_first (c : Dev nD) (r : Fin 4) : tiles m c ⟨0 + r.val, by omega⟩ = payOf (rowsAt m c t0_0) r := by
  unfold tiles
  rw [if_pos (by show 0 + r.val < 4; omega)]
  congr 1
  exact Fin.ext (by show (0 + r.val) % 4 = r.val; omega)

theorem tiles_second (c : Dev nD) (r : Fin 4) : tiles m c ⟨4 + r.val, by omega⟩ = payOf (rowsAt m c t0_1) r := by
  unfold tiles
  rw [if_neg (by show ¬ 4 + r.val < 4; omega)]
  congr 1
  exact Fin.ext (by show (4 + r.val) % 4 = r.val; omega)

/-- The buffers after the region: the result at `resAll`, everything else as the region finds it. -/
def G (c : Dev nD) : (b : Ref sig .tc) → Buf (Elt F) ((c : Thread nD τ).loc b) :=
  Function.update (V m c) main_v2 (resAll (tiles m c))

theorem G_main_v2 (c : Dev nD) : G m c main_v2 = resAll (tiles m c) := by
  unfold G; exact Function.update_self _ _ _

/-! ## The region's invariant -/

/-- The unscoped buffer the body writes itself. -/
def R0 : Finset (Ref sig .tc) := {main_v2}

/-- The body's one semaphore of its own. -/
abbrev osem0 : Fin 1 → SemLoc sig := fun j => (![SemLoc.dma dsem] : Fin 1 → SemLoc sig) j

theorem ownSemFacts0 : Pipeline.OwnSemFacts spec0 osem0 := by decide

theorem H0_sub : (∅ : Finset (Ref sig .tc)) ⊆ Pipeline.restRefs sig spec0 := Finset.empty_subset _

theorem R0_sub : R0 ⊆ Pipeline.restRefs sig spec0 \ ∅ := by decide

theorem ownSems00_eq (c : Dev nD) :
    (Pipeline.ownSems0 (Ix := Unit) (Name := ℕ) (U := Pipeline.UD sig nD τ) (Lvl := ℕ) (Val := Elt F) (τ := τ) osem0 c : sProp 𝕄)
      = semVal ((c : Thread nD τ), SemLoc.dma dsem) 0 := by
  rw [Pipeline.ownSems0_eq_of_list c osem0 [0] (by decide) (by decide)]; rfl

/-- The invariant at the region's ends: the scratch buffer whole, the generator register, the semaphore at zero, the
    result whole at `g`. -/
def ends (c : Dev nD) (g : ResBuf F) : sProp 𝕄 :=
  iprop((∃ f : Buf (Elt F) ((c : Thread nD τ).loc cc0_scratch0), ((c : Thread nD τ).loc cc0_scratch0) ↦{fullShare} f)
    ∗ (∃ r, prngReg c r) ∗ semVal ((c : Thread nD τ), SemLoc.dma dsem) 0 ∗ emp ∗ (((c : Thread nD τ).loc main_v2) ↦{fullShare} g))

theorem ends_eq (c : Dev nD) (G' : (c : Dev nD) → (b : Ref sig .tc) → Buf (Elt F) ((c : Thread nD τ).loc b)) :
    (Pipeline.ΦDRG osem0 spec0 ∅ R0 (V m) G' c : sProp 𝕄) = ends c (G' c main_v2) := by
  rw [Pipeline.ΦDRG_eq, scopedRest0_eq, ownSems00_eq, bigSep_empty]
  unfold Pipeline.routed R0
  rw [bigSep_singleton]
  rfl

/-- The invariant before each point and at the end. -/
def inv (c : Dev nD) (t : Fin (cfg0.N + 1)) : sProp 𝕄 :=
  match t.val with
  | 0 => ends c (V m c main_v2)
  | 1 => iprop((∃ f, mid c (tiles m c) f (V m c main_v2)) ∗ ∃ r, prngReg c r)
  | _ => ends c (resAll (tiles m c))

/-! ## The proof data and the body's two triples -/

/-- The arrays as the region finds them, the staged blocks left in place, the invariant, nothing owed, full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
  Φ t := inv m c t
  q _ := fullShare
  owed _ := 0

theorem A_eq (c : Dev nD) (w : Fin cfg0.W) : (dats m 0 c).A w = V m c (Pipeline.arrRef spec0 w) := by
  dsimp only [dats]

theorem before0 (c : Dev nD) (t : Fin cfg0.N) (d) : (dats m 0 c).before 0 t d = iblk m c 0 t :=
  ((dats m 0 c).before_in_eq_fetched 0 rfl (fun _ => rfl) (fun _ _ _ => rfl) (fun t => (by dsimp only [dats]; unfold Dat.blockOf iblk; rfl)) t d).trans
    (by unfold Dat.fetched Dat.blockOf iblk; rfl)

theorem before1 (c : Dev nD) (t : Fin cfg0.N) (d) : (dats m 0 c).before 1 t d = iblk m c 1 t :=
  ((dats m 0 c).before_in_eq_fetched 1 rfl (fun _ => rfl) (fun _ _ _ => rfl) (fun t => (by dsimp only [dats]; unfold Dat.blockOf iblk; rfl)) t d).trans
    (by unfold Dat.fetched Dat.blockOf iblk; rfl)

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body at the first point. -/
theorem sound_first (c : Dev nD) :
    bodyPre m c t0_0 ⊢ bwp c (bodyAt0 t0_0) (fun _ => bodyPost m c t0_0) := by
  rw [show bodyAt0 (F := F) t0_0 = firstStep (st0_0 t0_0) (st0_1 t0_0) from bodyOn_first _ _ _ _]
  unfold bodyPre bodyPost Dat.owesAt Pipeline.owesWithin
  rw [show (dats m 0 c).Φ t0_0.castSucc = ends c (V m c main_v2) from rfl,
    show (dats m 0 c).Φ t0_0.succ = iprop((∃ f, mid c (tiles m c) f (V m c main_v2)) ∗ ∃ r, prngReg c r) from rfl,
    show (dats m 0 c).after 0 t0_0 = iblk m c 0 t0_0 from rfl, show (dats m 0 c).after 1 t0_0 = iblk m c 1 t0_0 from rfl]
  simp only [before0, before1]
  unfold ends
  iintro ⟨⟨⟨%f, HS⟩, Hg, Hv, -, HR⟩, HW, ⟨%d0, H0⟩, ⟨%d1, H1⟩⟩
  ihave HP := (first_rule c (tiles m c) f (V m c main_v2) (st0_0 t0_0) (st0_1 t0_0) (iblk m c 0 t0_0) (iblk m c 1 t0_0)
    (tiles_first m c)) $$ [HS Hv HR H0 H1]
  · isplitl [H0 H1]
    · isplitl [H0] <;> iassumption
    isplitl [HS]; · iexact HS
    isplitl [HR]; · iexact HR
    iexact Hv
  unfold bwp
  iapply (wp_wand frame (wpE (defs₀ (F := F)) Variants.none (c : Thread nD τ) none) Set.univ) $$ HP
  iintro %_ ⟨⟨H0, H1⟩, HM⟩
  isplitl [HM Hg]
  · isplitl [HM]; · iexists f; iexact HM
    iexact Hg
  isplitl [HW]; · iexact HW
  isplitl [H0] <;> iassumption

/-- The body at the second point. -/
theorem sound_second (c : Dev nD) :
    bodyPre m c t0_1 ⊢ bwp c (bodyAt0 t0_1) (fun _ => bodyPost m c t0_1) := by
  rw [show bodyAt0 (F := F) t0_1 = secondStep (st0_0 t0_1) (st0_1 t0_1) from bodyOn_second _ _ _ _]
  unfold bodyPre bodyPost Dat.owesAt Pipeline.owesWithin
  rw [show (dats m 0 c).owed t0_1.castSucc = 0 from rfl, show (dats m 0 c).owed t0_1.succ = 0 from rfl,
    show (dats m 0 c).Φ t0_1.castSucc = iprop((∃ f, mid c (tiles m c) f (V m c main_v2)) ∗ ∃ r, prngReg c r) from rfl,
    show (dats m 0 c).Φ t0_1.succ = ends c (resAll (tiles m c)) from rfl,
    show (dats m 0 c).after 0 t0_1 = iblk m c 0 t0_1 from rfl, show (dats m 0 c).after 1 t0_1 = iblk m c 1 t0_1 from rfl]
  simp only [before0, before1]
  unfold ends
  iintro ⟨⟨⟨%f, HM⟩, Hg⟩, ⟨%W, -, HW⟩, ⟨%d0, H0⟩, ⟨%d1, H1⟩⟩
  ihave HP := (second_rule c (tiles m c) f (V m c main_v2) (st0_0 t0_1) (st0_1 t0_1) (iblk m c 0 t0_1) (iblk m c 1 t0_1)
    (tiles_second m c) W) $$ [HM HW H0 H1]
  · isplitl [H0 H1]
    · isplitl [H0] <;> iassumption
    isplitl [HM] <;> iassumption
  unfold bwp
  iapply (wp_wand frame (wpE (defs₀ (F := F)) Variants.none (c : Thread nD τ) none) Set.univ) $$ HP
  iintro %_ ⟨⟨H0, H1⟩, HS, HR, Hv, ⟨%W', HW'⟩⟩
  isplitl [HS Hg Hv HR]
  · isplitl [HS]; · iexists _; iexact HS
    isplitl [Hg]; · iexact Hg
    isplitl [Hv]; · iexact Hv
    isplitr; · exact .rfl
    iexact HR
  isplitl [HW']
  · iexists W'; isplitr; · ipureintro; exact fun _ _ => Or.inl trivial
    iexact HW'
  isplitl [H0] <;> iassumption

/-- The body at any point. -/
theorem sound_body (c : Dev nD) (t : Fin cfg0.N) :
    bodyPre m c t ⊢ bwp c (bodyAt0 t) (fun _ => bodyPost m c t) := by
  rcases fin_N0 t with rfl | rfl
  · exact sound_first m c
  · exact sound_second m c

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- The host operations before the region leave the buffers at `V`. -/
theorem to_region : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub hostOps0_fresh main_chain

set_option backward.isDefEq.respectTransparency.types false in
/-- The run from any launch memory: what it leaves in every buffer, and every semaphore at zero. -/
theorem run_main : θ_run defs (onTc (τ := τ) (main (F := F))) (s₀ m ρ)
    (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 ∅ R0 H0_sub R0_sub m ρ main
    (hbody := fun c => (body_obligation m c).loose) (hshare := fun c => (dats m 0 c).share_full fun _ => rfl)
    (howed := fun _ _ => rfl) (V := V m) (hmain := to_region m) (hA := A_eq m) (G := G m)
    (hin := fun c => Entails.of_eq (ends_eq m c (V m)))
    (hout := fun c => Entails.of_eq ((ends_eq m c (G m)).trans (congrArg (ends c) (G_main_v2 m c))).symm)

/-- The run from any launch memory: the arguments as they were, the result at `resAll` of the tiles, every semaphore at
    zero. -/
theorem run_result : θ_run defs (onTc (τ := τ) (main (F := F))) ⟨m, fun _ => 0, ρ⟩ (fun r => (∀ c : Dev nD,
      r.2.mem ((c.tc : Thread nD τ).loc main_v2) = resAll (tiles m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(h.1.written c (Finset.mem_singleton_self _)).trans (G_main_v2 m c),
      ((h.1.toR c).1 0).trans (((dats m 0 c).arrAt_in 0 rfl _).trans ((A_eq m c 0).trans (V_main_arg0 m c))),
      ((h.1.toR c).2 main_arg1 (by decide)).trans (V_main_arg1 m c),
      ((h.1.toR c).2 main_arg2 (by decide)).trans (V_main_arg2 m c)⟩, h.2⟩) (run_main m ρ)

end Cert.Attn

end
-- ==== Proof.Idealized.lean ====
/-
  The run of the idealized kernel: it is the kernel's own text, so the run theorem reads the same of it.
-/
module

public import proofs.«01_k».proof.KernelIdeal
public import proofs.«01_k».proof.Proof.Gen.KernelIdeal
public import proofs.«01_k».proof.Proof.Run
public import Idealize.ShloMosaic.PureOps.Ideal

@[expose] public section

noncomputable section

namespace Cert.Attn

open Idealize.ShloMosaic Idealize.ShloMosaic.TcCoe Idealize.SL.Sem

/-- The two texts call the same kernels. -/
theorem defs_same : Cert.KernelIdeal.defs (F := Ideal) = Cert.Kernel.defs (F := Ideal) := by chain_rfl

/-- The two texts have the same entry program. -/
theorem main_same : Cert.KernelIdeal.main (F := Ideal) = Cert.Kernel.main (F := Ideal) := by chain_rfl

variable (m : (ℓ : Loc Cert.KernelIdeal.nD Cert.KernelIdeal.τ Cert.KernelIdeal.sig) → Buf (Elt Ideal) ℓ) (ρ : Dev Cert.KernelIdeal.nD → PrngReg)

/-- The idealized kernel's run from any launch memory: the arguments as they were, the result at `resAll` of the tiles,
    every semaphore at zero. -/
theorem ideal_run_result : θ_run (Cert.KernelIdeal.defs (F := Ideal)) (onTc (τ := Cert.KernelIdeal.τ) (Cert.KernelIdeal.main (F := Ideal)))
    ⟨m, fun _ => 0, ρ⟩ (fun r => (∀ c : Dev Cert.KernelIdeal.nD,
      r.2.mem ((c.tc : Thread Cert.KernelIdeal.nD Cert.KernelIdeal.τ).loc Cert.KernelIdeal.main_v2) = resAll (tiles (F := Ideal) m c)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0) := by
  rw [defs_same, main_same]
  exact run_result (F := Ideal) m ρ

end Cert.Attn

end
-- ==== Proof.Blocks.lean ====
/-
  What the two staged blocks of a grid point hold, in terms of the argument arrays: the point's four batches, and the
  first 128 weights.
-/
module

public import proofs.«01_k».proof.Proof.Run
public import Idealize.ShloMosaic.Lib.Pointwise

@[expose] public section

noncomputable section

namespace Cert.Attn

open Cert.Kernel Cert.Kernel.Gen
open Idealize.ShloMosaic Idealize.ShloMosaic.TcCoe Idealize.SL.Sem

variable {F : FTy → Type} [FloatOps F] (m : (ℓ : Loc nD τ sig) → Buf (Elt F) ℓ) (c : Dev nD)

/-- The kernel's second operand, when the kernel starts: the first 128 weights, as a column. -/
theorem weights_col : V m c main_v1 = shapeCast S128x1
    (extractStridedSlice S1x128 ![0, 0] (m ((c : Thread nD τ).loc main_arg1)) slices_S1x129_S1x128_0_0) shapeCasts_S1x128_S128x1 := by
  show StableHlo.after hostOps0 _ main_v1 = _
  after_results_simp
  all_goals rfl

/-- The kernel's first operand, when the kernel starts, is the first argument. -/
theorem features_in : V m c main_arg0 = m ((c : Thread nD τ).loc main_arg0) := by
  show StableHlo.after hostOps0 _ main_arg0 = _
  after_results_simp
  all_goals rfl

/-- The first window's block at point `t` is the `t`-th along the batches. -/
theorem index0 (t : Fin cfg0.N) : win0_0.index t 0 = t.val ∧ win0_0.index t 1 = 0 ∧ win0_0.index t 2 = 0 := by
  rcases fin_N0 t with rfl | rfl <;> decide

/-- The second window's block is the whole column at every point. -/
theorem index1 (t : Fin cfg0.N) : win0_1.index t 0 = 0 ∧ win0_1.index t 1 = 0 := by
  rcases fin_N0 t with rfl | rfl <;> decide

/-- Weight `e` of the staged column. -/
theorem block1_apply (t : Fin cfg0.N) (e : Fin 128) :
    iblk m c 1 t (ix2 e 0) = m ((c : Thread nD τ).loc main_arg1) (ix2 (0 : Fin 1) (⟨e.val, by omega⟩ : Fin 129)) := by
  have h : iblk m c 1 t (ix2 e 0) = V m c main_v1 (ix2 e 0) := by
    unfold iblk
    rw [View.read_apply, cast_eq]
    congr 1
    funext a
    apply Fin.ext
    match a with
    | ⟨0, _⟩ => show win0_1.index t 0 * 128 + 1 * e.val = e.val; rw [(index1 t).1]; omega
    | ⟨1, _⟩ => show win0_1.index t 1 * 1 + 1 * 0 = 0; rw [(index1 t).2]
  rw [h, weights_col]
  pointwise

/-- Row `j` of batch `r` of the block staged at point `t`. -/
theorem block0_apply (t : Fin cfg0.N) (r : Fin 4) (j : Fin 2048) (d : Fin 128) (b : Fin 8) (hb : b.val = 4 * t.val + r.val) :
    iblk m c 0 t (ix3 r j d) = m ((c : Thread nD τ).loc main_arg0) (ix3 b j d) := by
  have h : iblk m c 0 t (ix3 r j d) = V m c main_arg0 (ix3 b j d) := by
    unfold iblk
    rw [View.read_apply, cast_eq]
    congr 1
    funext a
    apply Fin.ext
    match a with
    | ⟨0, _⟩ => show win0_0.index t 0 * 4 + 1 * r.val = b.val; rw [(index0 t).1]; omega
    | ⟨1, _⟩ => show win0_0.index t 1 * 2048 + 1 * j.val = j.val; rw [(index0 t).2.1]; omega
    | ⟨2, _⟩ => show win0_0.index t 2 * 128 + 1 * d.val = d.val; rw [(index0 t).2.2]; omega
  rw [h, features_in]

end Cert.Attn

end
-- ==== Proof.Finite.lean ====
/-
  What the precondition says: every element of the three argument arrays is a real number.
-/
module

public import proofs.«01_k».proof.Pre_finite
public import Idealize.ShloMosaic.PureOps.Ideal
public import Idealize.ShloMosaic.PureOps.Ideal.Laws
public import Idealize.ShloMosaic.Lib.ReduceAll
public import Idealize.ShloMosaic.Lib.Pointwise

@[expose] public section

noncomputable section

namespace Cert.Attn

open Idealize.ShloMosaic Cert.Pre_finite

/-- The side conditions the predicate states of its shapes. -/
instance finiteFacts : Cert.Pre_finite.Facts where
  bcast_S_S8x2048x128 := by decide
  reducesTo_S8x2048x128_S_d0_1_2 := by decide
  h_S_ := by decide
  bcast_S_S1x129 := by decide
  reducesTo_S1x129_S_d0_1 := by decide
  bcast_S_S1 := by decide
  reducesTo_S1_S_d0 := by decide

instance : Subsingleton S_.Idx := ⟨fun a b => funext fun i => i.elim0⟩

/-- The pattern of plus infinity denotes the greatest extended real. -/
theorem pos_inf : Ideal.ofBits .f32 0x7F800000#32 = ⊤ := by
  simp [Ideal.ofBits, Ideal.ieee]

/-- An extended real whose magnitude is below infinity is the real it rounds down to: itself. -/
theorem real_of_abs_lt (a : EReal) (h : Ideal.cmp .olt (max a (-a)) ⊤ = 1#1) : a = ((a.toReal : ℝ) : EReal) := by
  have lt : max a (-a) < ⊤ := by
    by_contra hn
    simp only [Ideal.cmp, decide_eq_false hn] at h
    exact absurd h (by decide)
  refine (EReal.coe_toReal ?_ ?_).symm
  · rintro rfl
    exact absurd lt (by simp)
  · rintro rfl
    exact absurd lt (by simp)

/-- An array whose every magnitude compares below infinity holds reals only. -/
theorem all_real {s : Shape} {axes : List (Fin s.rank)} (x : FVec Ideal s .f32) (hb : S_.BroadcastsInDim s ![])
    (hr : s.ReducesTo axes S_) (hu : 0 < S_.numel) (init : S_.Idx → BitVec 1) (j : S_.Idx)
    (h : Host.reduce IntOp.andi (cmpf .olt (Host.absf x) (broadcastInDim s ![] hb (constant (F := Ideal) S_ .f32 0x7F800000#32)))
      init hr hu j = 1#1) (i : s.Idx) : x i = (((x i).toReal : ℝ) : EReal) := by
  have e := Host.reduce_andi_all _ init hr hu j h i
  rw [ValueIdx.cmpf_apply, ValueIdx.broadcastInDim_scalar_apply, ValueIdx.constant_apply, pos_inf] at e
  exact real_of_abs_lt (x i) e

/-- Under the precondition every element of the three arrays is a real. -/
theorem finite_reals (x : FVec Ideal S8x2048x128 .f32) (w : FVec Ideal S1x129 .f32) (β : FVec Ideal S1 .f32)
    (h : Cert.Pre_finite.fn x w β = fun _ => 1#1) :
    (∀ i, x i = (((x i).toReal : ℝ) : EReal)) ∧ (∀ i, w i = (((w i).toReal : ℝ) : EReal))
      ∧ ∀ i, β i = (((β i).toReal : ℝ) : EReal) := by
  have e := congrFun h ix0
  dsimp only [Cert.Pre_finite.fn] at e
  obtain ⟨e, hβ⟩ := IntOp.andi_eq_one.1 e
  obtain ⟨hx, hw⟩ := IntOp.andi_eq_one.1 e
  exact ⟨all_real x _ _ _ _ _ hx, all_real w _ _ _ _ _ hw, all_real β _ _ _ _ _ hβ⟩

end Cert.Attn

end
-- ==== Proof.KernelValue.lean ====
/-
  What one block of the kernel computes, on the extended reals: each pooled row and each tile, read at an index.
-/
module

public import proofs.«01_k».proof.Proof.Program
public import Idealize.ShloMosaic.Lib.Pointwise

@[expose] public section

noncomputable section

namespace Cert.Attn

open Cert.Kernel Cert.Kernel.Gen Idealize.ShloMosaic

/-- The score of row `j` of batch `r` in a block: its 128 features against the weights. -/
def blockScore (h : FVec Ideal S4x2048x128 .f32) (w : FVec Ideal S128x1 .f32) (r : Fin 4) (j : Fin 2048) : EReal :=
  ∑ e : Fin 128, h (ix3 r j e) * w (ix2 e 0)

/-- A pooled row of a block: the features summed under the exponentials of the scores, over the sum of those. -/
theorem pooled_apply (h : FVec Ideal S4x2048x128 .f32) (w : FVec Ideal S128x1 .f32) (r : Fin 4) (d : Fin 128) :
    (k0_pay1 h w : FVec Ideal S4x128 .f32) (ix2 r d) = Ideal.div
      (∑ j : Fin 2048, Ideal.exp (blockScore h w r j) * h (ix3 r j d)) (∑ j : Fin 2048, Ideal.exp (blockScore h w r j)) := by
  pointwise [k0_pay1, blockScore]

/-- Every row of tile `r` is the pooled row `r`. -/
theorem payOf_apply (v : FVec Ideal S4x128 .f32) (r : Fin 4) (y : Fin 256) (d : Fin 128) :
    payOf v r (ix3 0 y d) = v (ix2 r d) := by
  match r with
  | 0 => pointwise [payOf, k0_pay2]
  | 1 => pointwise [payOf, k0_pay3]
  | 2 => pointwise [payOf, k0_pay4]
  | 3 => pointwise [payOf, k0_pay5]

end Cert.Attn

end
-- ==== Proof.Reference.lean ====
/-
  What the reference computes: its result array named stage by stage (scores, row maxima, exponentials, weights, the
  weighted sum), and each stage read at an index on the extended reals.
-/
module

public import proofs.«01_k».proof.Proof.Gen.ReferenceIdeal.Run
public import Idealize.ShloMosaic.Lib.Pointwise

@[expose] public section

noncomputable section

namespace Cert.Attn.Ref

open Cert.ReferenceIdeal Cert.ReferenceIdeal.Gen Idealize.ShloMosaic Idealize.ShloMosaic.TcCoe
  Idealize.SL.Sem

variable (h : FVec Ideal S8x2048x128 .f32) (w : FVec Ideal S1x129 .f32) (β : FVec Ideal S1 .f32)

/-- The source scores: each row of `h` against the first 128 weights, plus the bias. -/
def source : FVec Ideal S8x2048 .f32 :=
  addf (Host.dotGeneral dot_S8x2048x128_S128_S8x2048_2_0_01_n_n_n none h
      (shapeCast _ (extractStridedSlice S1x128 ![0, 0] w slices_S1x129_S1x128_0_0) shapeCasts_S1x128_S128))
    (broadcastInDim S8x2048 ![] bcast_S_S8x2048 (shapeCast _ β shapeCasts_S1_S_))

/-- The shift of each row: the last weight times the row's number. -/
def shift : FVec Ideal S1x2048x1 .f32 :=
  mulf (broadcastInDim S1x2048x1 ![] bcast_S_S1x2048x1
      (shapeCast _ (extractStridedSlice S1x1 ![0, 128] w slices_S1x129_S1x1_0_128) shapeCasts_S1x1_S_))
    (broadcastInDim S1x2048x1 ![1] bcast_S2048_S1x2048x1_1 (sitofp .f32 (iotaInDim S2048 32 0)))

/-- The scores: the source scores with each row's shift added. -/
def scores : FVec Ideal S8x2048x2048 .f32 :=
  addf (broadcastInDim S8x2048x2048 ![0, 1, 2] bcast_S8x1x2048_S8x2048x2048_0_1_2
      (broadcastInDim S8x1x2048 ![0, 2] bcast_S8x2048_S8x1x2048_0_2 (source h w β)))
    (broadcastInDim S8x2048x2048 ![0, 1, 2] bcast_S1x2048x1_S8x2048x2048_0_1_2 (shift w))

variable (x : FVec Ideal S8x2048x2048 .f32)

/-- The largest score of each row. -/
def rowMax : FVec Ideal S8x2048 .f32 :=
  maximumf (broadcastInDim S8x2048 ![] bcast_S_S8x2048 (constant S_ .f32 0xFF800000#32))
    (Host.reduce FloatOps.maximumf x (constant S_ .f32 0xFF800000#32) reducesTo_S8x2048x2048_S8x2048_d2 h_S_)

/-- A value per row, repeated along the row. -/
def along (y : FVec Ideal S8x2048 .f32) : FVec Ideal S8x2048x2048 .f32 :=
  broadcastInDim S8x2048x2048 ![0, 1, 2] bcast_S8x2048x1_S8x2048x2048_0_1_2
    (broadcastInDim S8x2048x1 ![0, 1] bcast_S8x2048_S8x2048x1_0_1 y)

/-- The exponentials of the scores, each row's largest score subtracted first. -/
def exps : FVec Ideal S8x2048x2048 .f32 := Host.exp (subf x (along (rowMax x)))

/-- The weights: each row of exponentials divided by its sum. -/
def weights : FVec Ideal S8x2048x2048 .f32 :=
  Host.divf (exps x)
    (along (Host.reduceAdd (exps x) (constant S_ .f32 0x00000000#32) reducesTo_S8x2048x2048_S8x2048_d2 h_S_))

/-- The reference's result: the rows of `h` summed under the weights. -/
def out : FVec Ideal S8x2048x128 .f32 :=
  Host.dotGeneral dot_S8x2048x2048_S8x2048x128_S8x2048x128_2_1_1_2_0_0 none (weights (scores h w β)) h

/-- The array the reference's run ends with is `out` of its three arguments. -/
theorem res_eq_out (m : (ℓ : Loc nD τ sig) → Buf (Elt Ideal) ℓ) (c : Dev nD) :
    Value.res_main_v27 m c = out (m ((c.tc : Thread nD τ).loc main_arg0)) (m ((c.tc : Thread nD τ).loc main_arg1))
      (m ((c.tc : Thread nD τ).loc main_arg2)) := rfl

/-- A source score is the sum of the products over the 128 features, plus the bias. -/
theorem source_apply (b : Fin 8) (j : Fin 2048) :
    source h w β (ix2 b j) = (∑ d : Fin 128, h (ix3 b j d) * w (ix2 0 ⟨d.val, by omega⟩)) + β (ix1 0) := by
  pointwise [source]

/-- A row's shift is the last weight times the row's number. -/
theorem shift_apply (i : Fin 2048) : shift w (ix3 0 i 0) = w (ix2 0 128) * ((i.val : ℝ) : EReal) := by
  pointwise [shift]
  have e : (FloatOps.sitofp FTy.f32 (BitVec.ofNat 32 i.val) : Ideal .f32) = (((BitVec.ofNat 32 i.val).toInt : ℝ) : EReal) := rfl
  have t : (BitVec.ofNat 32 i.val).toInt = (i.val : ℤ) := by
    rw [BitVec.toInt_eq_toNat_cond, BitVec.toNat_ofNat, Nat.mod_eq_of_lt (by omega), if_pos (by omega)]
  rw [e, t, Int.cast_natCast]

/-- A score is the source score plus the row's shift. -/
theorem scores_apply (b : Fin 8) (i j : Fin 2048) :
    scores h w β (ix3 b i j) = source h w β (ix2 b j) + shift w (ix3 0 i 0) := by
  pointwise [scores]

/-- The value repeated along a row is the row's value. -/
theorem along_apply (y : FVec Ideal S8x2048 .f32) (b : Fin 8) (i j : Fin 2048) : along y (ix3 b i j) = y (ix2 b i) := by
  pointwise [along]

/-- A weight is the exponential divided by the sum of the row's exponentials. -/
theorem weights_apply (b : Fin 8) (i j : Fin 2048) :
    weights x (ix3 b i j) = Ideal.div (exps x (ix3 b i j)) (∑ k : Fin 2048, exps x (ix3 b i k)) := by
  rw [weights, ValueIdx.hostDivf_apply, along_apply]
  pointwise

/-- An exponential is that of the score less the row's largest score. -/
theorem exps_apply (b : Fin 8) (i j : Fin 2048) :
    exps x (ix3 b i j) = Ideal.exp (x (ix3 b i j) - rowMax x (ix2 b i)) := by
  rw [← along_apply (rowMax x) b i j]
  rfl

/-- The pattern of minus infinity denotes the least extended real. -/
theorem neg_inf : Ideal.ofBits .f32 0xFF800000#32 = ⊥ := by
  simp [Ideal.ofBits, Ideal.ieee]

/-- The largest score of a row is the fold of the maximum along it. -/
theorem rowMax_apply (b : Fin 8) (i : Fin 2048) :
    rowMax x (ix2 b i) = (Finset.univ : Finset (Fin 2048)).fold max ⊥ fun k => x (ix3 b i k) := by
  have e : Host.reduce FloatOps.maximumf x (constant (F := Ideal) S_ .f32 0xFF800000#32) reducesTo_S8x2048x2048_S8x2048_d2 h_S_
      (ix2 b i) = (Finset.univ : Finset (Fin 2048)).fold max (Ideal.ofBits .f32 0xFF800000#32) fun k => x (ix3 b i k) := by
    rw [Host.reduce_eq_fold, Shape.ReducesTo.fold_fiber_r3_a2]
    rfl
  rw [rowMax, ValueIdx.maximumf_apply, e, ValueIdx.broadcastInDim_scalar_apply, ValueIdx.constant_apply, neg_inf]
  exact max_eq_right bot_le

/-- The result at an index is the sum over the row of weight times feature. -/
theorem out_apply (b : Fin 8) (i : Fin 2048) (d : Fin 128) :
    out h w β (ix3 b i d) = ∑ j : Fin 2048, weights (scores h w β) (ix3 b i j) * h (ix3 b j d) := by
  rw [out]
  pointwise

end Cert.Attn.Ref

end
-- ==== Proof.Softmax.lean ====
/-
  The arithmetic of the weighted mean on the extended reals: over real scores and features, adding one number to every
  score changes no weight, so the mean under normalized weights is the quotient of two sums.
-/
module

public import Idealize.ShloMosaic.PureOps.Ideal

@[expose] public section

noncomputable section

namespace Cert.Attn

open Idealize.ShloMosaic

/-- A finite sum of reals is the same sum among the extended reals. -/
theorem coe_total {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The quotient of two reals, the second not zero. -/
theorem div_real (a b : ℝ) (hb : b ≠ 0) : Ideal.div (a : EReal) (b : EReal) = ((a / b : ℝ) : EReal) := by
  rw [Ideal.div_coe hb, ← EReal.coe_mul]
  congr 1
  ring

/-- The largest of finitely many reals, at least one, is a real. -/
theorem fold_max_real {n : ℕ} (hn : 0 < n) (f : Fin n → ℝ) :
    ∃ M : ℝ, (Finset.univ : Finset (Fin n)).fold max ⊥ (fun k => (f k : EReal)) = (M : EReal) := by
  have lo : ⊥ < (Finset.univ : Finset (Fin n)).fold max ⊥ (fun k => (f k : EReal)) :=
    (Finset.lt_fold_max _).mpr (Or.inr ⟨⟨0, hn⟩, Finset.mem_univ _, EReal.bot_lt_coe _⟩)
  have hi : (Finset.univ : Finset (Fin n)).fold max ⊥ (fun k => (f k : EReal)) < ⊤ :=
    (Finset.fold_max_lt _).mpr ⟨bot_lt_top, fun k _ => EReal.coe_lt_top _⟩
  exact ⟨_, (EReal.coe_toReal hi.ne lo.ne').symm⟩

/-- A sum of exponentials, at least one, is positive. -/
theorem sum_exp_pos {n : ℕ} (hn : 0 < n) (s : Fin n → ℝ) : 0 < ∑ j, Real.exp (s j) :=
  Finset.sum_pos (fun _ _ => Real.exp_pos _) ⟨⟨0, hn⟩, Finset.mem_univ _⟩

/-- Among reals: the mean of `g` under the normalized exponentials of `s + t` does not depend on `t`. -/
theorem mean_shift {n : ℕ} (hn : 0 < n) (s g : Fin n → ℝ) (t : ℝ) :
    ∑ j, Real.exp (s j + t) / (∑ k, Real.exp (s k + t)) * g j
      = (∑ j, Real.exp (s j) * g j) / ∑ j, Real.exp (s j) := by
  have e : ∑ k, Real.exp (s k + t) = (∑ k, Real.exp (s k)) * Real.exp t := by
    rw [Finset.sum_mul]
    exact Finset.sum_congr rfl fun k _ => Real.exp_add _ _
  have p := (sum_exp_pos hn s).ne'
  have q := (Real.exp_pos t).ne'
  rw [e, Finset.sum_div]
  refine Finset.sum_congr rfl fun j _ => ?_
  rw [Real.exp_add]
  field_simp

/-- The mean under the weights of the scores `s + t`, their largest `M` subtracted, is the quotient of the two sums of
    exponentials of `s`: all on the extended reals. -/
theorem mean_eq {n : ℕ} (hn : 0 < n) (s g : Fin n → ℝ) (t M : ℝ) :
    ∑ j, Ideal.div (Ideal.exp (((s j + t : ℝ) : EReal) - (M : EReal)))
        (∑ k, Ideal.exp (((s k + t : ℝ) : EReal) - (M : EReal))) * (g j : EReal)
      = Ideal.div (∑ j, Ideal.exp (s j : EReal) * (g j : EReal)) (∑ j, Ideal.exp (s j : EReal)) := by
  have shifted (j : Fin n) : Ideal.exp (((s j + t : ℝ) : EReal) - (M : EReal)) = ((Real.exp (s j + (t - M)) : ℝ) : EReal) := by
    rw [← EReal.coe_sub, Ideal.exp_coe]
    congr 2
    ring
  have total : ∑ k, Ideal.exp (((s k + t : ℝ) : EReal) - (M : EReal)) = ((∑ k, Real.exp (s k + (t - M)) : ℝ) : EReal) := by
    rw [coe_total]
    exact Finset.sum_congr rfl fun k _ => shifted k
  have top : ∑ j, Ideal.exp (s j : EReal) * (g j : EReal) = ((∑ j, Real.exp (s j) * g j : ℝ) : EReal) := by
    rw [coe_total]
    exact Finset.sum_congr rfl fun j _ => by rw [Ideal.exp_coe, ← EReal.coe_mul]
  have bottom : ∑ j, Ideal.exp (s j : EReal) = ((∑ j, Real.exp (s j) : ℝ) : EReal) := by
    rw [coe_total]
    exact Finset.sum_congr rfl fun j _ => by rw [Ideal.exp_coe]
  rw [total, top, bottom, div_real _ _ (sum_exp_pos hn s).ne', ← mean_shift hn s g (t - M)]
  refine Eq.trans (Finset.sum_congr rfl fun j _ => ?_) (coe_total _ _).symm
  rw [shifted, div_real _ _ (sum_exp_pos hn fun k => s k + (t - M)).ne', ← EReal.coe_mul]

end Cert.Attn

end
-- ==== Proof.Equation.lean ====
/-
  The equation: over finite arguments, the array the kernel ends with is the array the reference ends with.
-/
module

public import proofs.«01_k».proof.Proof.Blocks
public import proofs.«01_k».proof.Proof.Finite
public import proofs.«01_k».proof.Proof.KernelValue
public import proofs.«01_k».proof.Proof.Reference
public import proofs.«01_k».proof.Proof.Softmax

@[expose] public section

noncomputable section

namespace Cert.Attn

open Cert.Kernel Cert.Kernel.Gen
open Idealize.ShloMosaic Idealize.ShloMosaic.TcCoe Idealize.SL.Sem

/-- The score of row `j` of batch `b`: its features against the first 128 weights. -/
def score (x : FVec Ideal S8x2048x128 .f32) (w : FVec Ideal S1x129 .f32) (b : Fin 8) (j : Fin 2048) : EReal :=
  ∑ e : Fin 128, x (ix3 b j e) * w (ix2 (0 : Fin 1) (⟨e.val, by omega⟩ : Fin 129))

/-- The mean of feature `d` over the rows of batch `b` under the exponentials of the scores. -/
def mean (x : FVec Ideal S8x2048x128 .f32) (w : FVec Ideal S1x129 .f32) (b : Fin 8) (d : Fin 128) : EReal :=
  Ideal.div (∑ j : Fin 2048, Ideal.exp (score x w b j) * x (ix3 b j d)) (∑ j : Fin 2048, Ideal.exp (score x w b j))

section Kernel
variable (m : (ℓ : Loc nD τ sig) → Buf (Elt Ideal) ℓ) (c : Dev nD)

/-- A pooled row of a grid point is the mean of its batch. -/
theorem rowsAt_apply (t : Fin cfg0.N) (r : Fin 4) (d : Fin 128) (b : Fin 8) (hb : b.val = 4 * t.val + r.val) :
    rowsAt m c t (ix2 r d) = mean (m ((c : Thread nD τ).loc main_arg0)) (m ((c : Thread nD τ).loc main_arg1)) b d := by
  have hs (j : Fin 2048) : blockScore (iblk m c 0 t) (iblk m c 1 t) r j
      = score (m ((c : Thread nD τ).loc main_arg0)) (m ((c : Thread nD τ).loc main_arg1)) b j :=
    Finset.sum_congr rfl fun e _ => congrArg₂ (· * ·) (block0_apply m c t r j e b hb) (block1_apply m c t e)
  refine (pooled_apply _ _ r d).trans (congrArg₂ Ideal.div ?_ ?_)
  · exact Finset.sum_congr rfl fun j _ => congrArg₂ (· * ·) (congrArg Ideal.exp (hs j)) (block0_apply m c t r j d b hb)
  · exact Finset.sum_congr rfl fun j _ => congrArg Ideal.exp (hs j)

/-- Every row of tile `b` is the mean of batch `b`. -/
theorem tiles_apply (b : Fin 8) (y : Fin 256) (d : Fin 128) : tiles m c b (ix3 0 y d)
    = mean (m ((c : Thread nD τ).loc main_arg0)) (m ((c : Thread nD τ).loc main_arg1)) b d := by
  refine (payOf_apply _ _ y d).trans ?_
  split
  · exact rowsAt_apply m c t0_0 _ d b (by show b.val = 4 * 0 + b.val % 4; omega)
  · exact rowsAt_apply m c t0_1 _ d b (by show b.val = 4 * 1 + b.val % 4; omega)

/-- Every row of the kernel's result is the mean of its batch. -/
theorem kernel_apply (b : Fin 8) (i : Fin 2048) (d : Fin 128) : resAll (tiles m c) (ix3 b i d)
    = mean (m ((c : Thread nD τ).loc main_arg0)) (m ((c : Thread nD τ).loc main_arg1)) b d :=
  tiles_apply m c b ⟨i.val % 256, Nat.mod_lt _ (by decide)⟩ d

end Kernel

/-- Every row of the reference's result, over reals, is the mean of its batch. -/
theorem reference_apply (x : FVec Ideal S8x2048x128 .f32) (w : FVec Ideal S1x129 .f32) (β : FVec Ideal Cert.ReferenceIdeal.S1 .f32)
    (hx : ∀ i, x i = (((x i).toReal : ℝ) : EReal)) (hw : ∀ i, w i = (((w i).toReal : ℝ) : EReal))
    (hβ : ∀ i, β i = (((β i).toReal : ℝ) : EReal)) (b : Fin 8) (i : Fin 2048) (d : Fin 128) :
    Ref.out x w β (ix3 b i d) = mean x w b d := by
  obtain ⟨s, hs⟩ : ∃ s : Fin 2048 → ℝ, ∀ j, score x w b j = (s j : EReal) :=
    ⟨fun j => ∑ e : Fin 128, (x (ix3 b j e)).toReal * (w (ix2 (0 : Fin 1) (⟨e.val, by omega⟩ : Fin 129))).toReal, fun j => by
      rw [coe_total]
      exact Finset.sum_congr rfl fun e _ => by rw [EReal.coe_mul, ← hx, ← hw]⟩
  obtain ⟨g, hg⟩ : ∃ g : Fin 2048 → ℝ, ∀ j, x (ix3 b j d) = (g j : EReal) := ⟨_, fun j => hx _⟩
  obtain ⟨q, hq⟩ : ∃ q : ℝ, β (ix1 0) = (q : EReal) := ⟨_, hβ _⟩
  obtain ⟨v, hv⟩ : ∃ v : ℝ, w (ix2 0 128) = (v : EReal) := ⟨_, hw _⟩
  obtain ⟨t, ht⟩ : ∃ t : ℝ, ∀ j, Ref.scores x w β (ix3 b i j) = ((s j + t : ℝ) : EReal) :=
    ⟨q + v * i.val, fun j => by
      rw [Ref.scores_apply, Ref.source_apply, Ref.shift_apply, hq, hv, ← EReal.coe_mul,
        show (∑ e : Fin 128, x (ix3 b j e) * w (ix2 0 ⟨e.val, by omega⟩)) = (s j : EReal) from hs j,
        ← EReal.coe_add, ← EReal.coe_add, add_assoc]⟩
  obtain ⟨M, hM⟩ := fold_max_real (n := 2048) (by decide) fun k => s k + t
  have he (j : Fin 2048) : Ref.exps (Ref.scores x w β) (ix3 b i j) = Ideal.exp (((s j + t : ℝ) : EReal) - (M : EReal)) := by
    rw [Ref.exps_apply, Ref.rowMax_apply, ht]
    simp only [ht, hM]
  rw [Ref.out_apply, mean]
  simp only [Ref.weights_apply, he, hs, hg]
  exact mean_eq (by decide) s g t M

/-- Over finite arguments the kernel's result is the reference's result. -/
theorem kernel_eq_reference (m : (ℓ : Loc nD τ sig) → Buf (Elt Ideal) ℓ) (c : Dev nD)
    (x : FVec Ideal S8x2048x128 .f32) (w : FVec Ideal S1x129 .f32) (β : FVec Ideal Cert.ReferenceIdeal.S1 .f32)
    (ex : x = m ((c : Thread nD τ).loc main_arg0)) (ew : w = m ((c : Thread nD τ).loc main_arg1))
    (finite : Cert.Pre_finite.fn (F := Ideal) x w β = fun _ => 1#1) : resAll (tiles m c) = Ref.out x w β := by
  obtain ⟨hx, hw, hβ⟩ := finite_reals x w β finite
  funext p
  rw [ValueIdx.eq_ix3 p]
  refine (kernel_apply m c _ _ _).trans (Eq.trans ?_ (reference_apply x w β hx hw hβ _ _ _).symm)
  rw [ex, ew]

end Cert.Attn

end
-- ==== Proof.lean ====
/-
  The proof of `Cert.Claim`: the kernel, printed and idealized, and the reference run, leave their arguments as they
  were and end with every semaphore at zero; and over finite arguments the idealized kernel ends with the reference's
  result.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Run
public import proofs.«01_k».proof.Proof.Idealized
public import proofs.«01_k».proof.Proof.Equation
public import Idealize.ShloMosaic.Lib.Quiescent

@[expose] public section

noncomputable section

namespace Cert.Proof

open Idealize.ShloMosaic Idealize.SL.Sem

/-- The kernel as printed runs, keeps its arguments and ends with every semaphore at zero. -/
theorem kernel_frame : Cert.quiescent_Kernel := fun m g _ =>
  (θ_run Cert.Kernel.defs _ _).mono (fun _ h => ⟨fun c => (h.1 c).2, h.2⟩) (Cert.Attn.run_result (F := Bits) m g)

/-- The idealized kernel runs, keeps its arguments and ends with every semaphore at zero. -/
theorem ideal_frame : Cert.quiescent_KernelIdeal := fun m g _ =>
  (θ_run Cert.KernelIdeal.defs _ _).mono (fun _ h => ⟨fun c => (h.1 c).2, h.2⟩) (Cert.Attn.ideal_run_result m g)

/-- The reference runs, keeps its arguments and ends with every semaphore at zero: it has none. -/
theorem reference_frame : Cert.quiescent_ReferenceIdeal := fun m g _ =>
  (θ_run Cert.ReferenceIdeal.defs _ _).mono
    (fun r h => ⟨fun c => (h c).2, sem_eq_zero_of_no_sems (by decide) r.2⟩) (Cert.ReferenceIdeal.Value.run (F := Ideal) m g)

/-- Over finite arguments the idealized kernel and the reference end with the same result. -/
theorem same_result : Cert.algebraic_KernelIdeal_ReferenceIdeal_pre_finite := fun m g m' g' finite same => by
  refine ⟨fun c => Cert.Attn.resAll (Cert.Attn.tiles (F := Ideal) m c),
    (θ_run Cert.KernelIdeal.defs _ _).mono (fun _ h => h.1) (Cert.Attn.ideal_run_result m g),
    (θ_run Cert.ReferenceIdeal.defs _ _).mono (fun _ h c => ⟨(h c).1.trans ?_, (h c).2⟩)
      (Cert.ReferenceIdeal.Value.run (F := Ideal) m' g')⟩
  have f := finite c
  rw [← (same c).1, ← (same c).2.1, ← (same c).2.2] at f
  exact (Cert.Attn.Ref.res_eq_out m' c).trans (Cert.Attn.kernel_eq_reference m c _ _ _ (same c).1 (same c).2.1 f).symm

/-- Every claim of the certificate. -/
theorem claim : Cert.Claim :=
  ⟨Cert.Kernel.Gen.facts, Cert.KernelIdeal.Gen.facts, Cert.ReferenceIdeal.Gen.facts, Cert.Attn.finiteFacts,
    kernel_frame, ideal_frame, fun m g _ => ideal_frame m g trivial, reference_frame,
    fun m g _ => reference_frame m g trivial, trivial, same_result⟩

end Cert.Proof

end
